-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x64 : Shape := ⟨3, ![16, 1024, 64]⟩
abbrev S1024x64 : Shape := ⟨2, ![1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x1024x64 .f32) (main_arg1 : FVec F S1024x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x1024x64 : Shape := ⟨3, ![16, 1024, 64]⟩
abbrev S1024x64 : Shape := ⟨2, ![1024, 64]⟩
abbrev S1024 : Shape := ⟨1, ![1024]⟩
abbrev S1024x1 : Shape := ⟨2, ![1024, 1]⟩
abbrev S16x64x1024 : Shape := ⟨3, ![16, 64, 1024]⟩
abbrev S64x1024 : Shape := ⟨2, ![64, 1024]⟩
abbrev S1x1x1 : Shape := ⟨3, ![1, 1, 1]⟩
abbrev S4x64x1024 : Shape := ⟨3, ![4, 64, 1024]⟩
abbrev S64x1 : Shape := ⟨2, ![64, 1]⟩
abbrev S1x64x1024 : Shape := ⟨3, ![1, 64, 1024]⟩
abbrev S1x1024 : Shape := ⟨2, ![1, 1024]⟩
abbrev S1024x1024 : Shape := ⟨2, ![1024, 1024]⟩
abbrev S256x1 : Shape := ⟨2, ![256, 1]⟩
abbrev S256x1024 : Shape := ⟨2, ![256, 1024]⟩
abbrev S1 : Shape := ⟨1, ![1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S1024, .f32⟩
  | .hbm, ⟨3, _⟩ => ⟨S1024x1, .f32⟩
  | .hbm, ⟨4, _⟩ => ⟨S16x64x1024, .f32⟩
  | .hbm, ⟨5, _⟩ => ⟨S64x1024, .f32⟩
  | .hbm, ⟨6, _⟩ => ⟨S16x64x1024, .f32⟩
  | .hbm, ⟨7, _⟩ => ⟨S1x1x1, .f32⟩
  | .hbm, ⟨8, _⟩ => ⟨S16x1024x64, .f32⟩
  | .hbm, ⟨9, _⟩ => ⟨S_, .f32⟩
  | .local _ .vmem, ⟨0, _⟩ => ⟨S4x64x1024, .f32⟩
  | .local _ .vmem, ⟨1, _⟩ => ⟨S4x64x1024, .f32⟩
  | .local _ .vmem, ⟨2, _⟩ => ⟨S64x1024, .f32⟩
  | .local _ .vmem, ⟨3, _⟩ => ⟨S1024x1, .f32⟩
  | .local _ .vmem, ⟨4, _⟩ => ⟨S4x64x1024, .f32⟩
  | .local _ .vmem, ⟨5, _⟩ => ⟨S4x64x1024, .f32⟩
  | .local _ .vmem, ⟨6, _⟩ => ⟨S1x1x1, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S64x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x1024, .i32⟩
  | .hbm, ⟨27, _⟩ => ⟨S16384x1024, .i32⟩
  | .hbm, ⟨28, _⟩ => ⟨S16384x1024, .i32⟩
  | .hbm, ⟨29, _⟩ => ⟨S16384x1024, .i1⟩
  | .hbm, ⟨30, _⟩ => ⟨S16384x1024, .f32⟩
  | .hbm, ⟨31, _⟩ => ⟨S16384x64, .f32⟩
  | .hbm, ⟨32, _⟩ => ⟨S16x1024x64, .f32⟩
  | .hbm, ⟨33, _⟩ => ⟨S16x1024x64, .f32⟩
  | .hbm, ⟨34, _⟩ => ⟨S16x1024x64, .f32⟩
  | .hbm, ⟨35, _⟩ => ⟨S16x1024x64, .f32⟩
  | .hbm, ⟨36, _⟩ => ⟨S16x1024x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.BodyRun.lean ====
/- The body of the kernel, run once on whole staging buffers: what its stores leave in the two output buffers.

   The running loss is read before anything is stored in it, so its contents on entry are a parameter here
   (`xo4`, any array of one entry); at the first grid point the body itself discards them. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body writes into the block of the first result and into the running loss, with the proof that the
    body, started on the three input blocks and on a running loss `xo4`, ends with the input blocks as they were and
    each output buffer overwritten by its pieces. -/
noncomputable def bodyRun (c : Dev nD) (i : grid0.Coords) (arg1 : Memref sig .tc .vmem S4x64x1024 .f32) (harg1 : arg1.IsWhole)
    (arg2 : Memref sig .tc .vmem S64x1024 .f32) (harg2 : arg2.IsWhole) (arg3 : Memref sig .tc .vmem S1024x1 .f32) (harg3 : arg3.IsWhole)
    (arg4 : Memref sig .tc .vmem S4x64x1024 .f32) (harg4 : arg4.IsWhole) (arg5 : Memref sig .tc .vmem S1x1x1 .f32) (harg5 : arg5.IsWhole)
    (x0 : Vec F S4x64x1024 .f32) (x1 : Vec F S64x1024 .f32) (x2 : Vec F S1024x1 .f32) (xo4 : Vec F S1x1x1 .f32) :
    Σ' (L3 : List (View.Piece (Elt F) S4x64x1024 .f32)), { L4 : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E
              (cc0__vq_block_kernel i arg1 harg1 arg2 harg2 arg3 harg3 arg4 harg4 arg5 harg5) K } := by
  refine ⟨?_, ?_, fun E K => ?run⟩
  case run =>
    simp only [cc0__vq_block_kernel_eq_skeleton]; unfold cc0__vq_block_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1
    obtain rfl := harg3.eq_unread hf2; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Hand

end
-- ==== Proof.SlabOps.lean ====
/- The kernel's work on ONE slab of the input — a matrix of 64 features by 1024 rows — named operation by operation.

   The kernel writes the same operations four times, once per slab of its block; the definitions here are those
   operations, so that what they compute is proved once. Each block of codes is again 256 of the 1024 codes. -/
module

public import proofs.«01_k».proof.Proof.Gen.KernelIdeal

@[expose] public section

noncomputable section

namespace Cert.KernelIdeal.Hand

open Cert.KernelIdeal.Gen
open Idealize.ShloMosaic

variable {F : FTy → Type} [FloatOps F]

/-- The squared length of every code, as a column. -/
def normW (w : FVec F S64x1024 .f32) : FVec F S1024x1 .f32 :=
  matmul dot_S64x1024_S64x1_S1024x1_0_0_1_1_n_n none (mulf w w) (broadcast S64x1 (Scalar.ofBits .f32 0x3F800000#32))
    (constant S1024x1 .f32 0x00000000#32)

/-- The squared length of every row of the slab, as a row. -/
def normX (x : FVec F S64x1024 .f32) : FVec F S1x1024 .f32 :=
  shapeCast S1x1024 (multiReduction .add [0] S1024 (mulf x x) 0x00000000#32 reduces_S64x1024_S1024 (.inl rfl) rfl) shapeCasts_S1024_S1x1024

/-- The scalar products of the codes, scaled by `-2`, with the rows. -/
def cross (w x : FVec F S64x1024 .f32) : FVec F S1024x1024 .f32 :=
  matmul dot_S64x1024_S64x1024_S1024x1024_0_0_1_1_n_n none (mulf w (broadcast S64x1024 (Scalar.ofBits .f32 0xC0000000#32))) x
    (constant S1024x1024 .f32 0x00000000#32)

/-- The distances of the 256 codes from `o` on to every row. -/
def dist (o : Nat) (h₁ : S1024x1.Slices ![o, 0] S256x1) (h₂ : S1024x1024.Slices ![o, 0] S256x1024) (nw : FVec F S1024x1 .f32)
    (nx : FVec F S1x1024 .f32) (cr : FVec F S1024x1024 .f32) : FVec F S256x1024 .f32 :=
  addf (addf (broadcastTo S256x1024 (extractStridedSlice S256x1 ![o, 0] nw h₁) broadcasts_S256x1_S256x1024)
    (broadcastTo S256x1024 nx broadcasts_S1x1024_S256x1024)) (extractStridedSlice S256x1024 ![o, 0] cr h₂)

/-- The least entry of every column, as a row. -/
def lowest (d : FVec F S256x1024 .f32) : FVec F S1x1024 .f32 :=
  shapeCast S1x1024 (multiReduction .minimumf [0] S1024 d 0x7F800000#32 reduces_S256x1024_S1024 (.inl rfl) rfl) shapeCasts_S1024_S1x1024

/-- The least index, of the 256 indices from `o` on, at which a column attains its least entry, as a row of floats. -/
def place (o : Nat) (h : S1024x1.Slices ![o, 0] S256x1) (ic : FVec F S1024x1 .f32) (d : FVec F S256x1024 .f32) : FVec F S1x1024 .f32 :=
  lowest (select (cmpf .oeq d (broadcastTo S256x1024 (lowest d) broadcasts_S1x1024_S256x1024))
    (broadcastTo S256x1024 (shapeCast S256x1 (extractStridedSlice S256x1 ![o, 0] ic h) shapeCasts_S256x1_S256x1) broadcasts_S256x1_S256x1024)
    (broadcast S256x1024 (Scalar.ofBits .f32 0x44800000#32)))

/-- One step of the running search: the index kept, `idx` unless the new least distance is strictly below the old. -/
def keep (best idx low pl : FVec F S1x1024 .f32) : FVec F S1x1024 .f32 := select (cmpf .olt low best) pl idx

/-- The search over all 1024 codes, 256 at a time: the index of a nearest code for every row, as a float. -/
def search (nw ic : FVec F S1024x1 .f32) (nx : FVec F S1x1024 .f32) (cr : FVec F S1024x1024 .f32) : FVec F S1x1024 .f32 :=
  let d0 := dist 0 slices_S1024x1_o0_0_S256x1 slices_S1024x1024_o0_0_S256x1024 nw nx cr
  let d1 := dist 256 slices_S1024x1_o256_0_S256x1 slices_S1024x1024_o256_0_S256x1024 nw nx cr
  let d2 := dist 512 slices_S1024x1_o512_0_S256x1 slices_S1024x1024_o512_0_S256x1024 nw nx cr
  let d3 := dist 768 slices_S1024x1_o768_0_S256x1 slices_S1024x1024_o768_0_S256x1024 nw nx cr
  let b1 := minimumf (lowest d0) (lowest d1)
  let b2 := minimumf b1 (lowest d2)
  let i1 := keep (lowest d0) (place 0 slices_S1024x1_o0_0_S256x1 ic d0) (lowest d1) (place 256 slices_S1024x1_o256_0_S256x1 ic d1)
  let i2 := keep b1 i1 (lowest d2) (place 512 slices_S1024x1_o512_0_S256x1 ic d2)
  keep b2 i2 (lowest d3) (place 768 slices_S1024x1_o768_0_S256x1 ic d3)

/-- The codes of indices `idx`, picked by a product with the matrix that has a one at each index. -/
def pick (w : FVec F S64x1024 .f32) (ic : FVec F S1024x1 .f32) (idx : FVec F S1x1024 .f32) : FVec F S64x1024 .f32 :=
  matmul dot_S64x1024_S1024x1024_S64x1024_1_0_0_1_n_n none w
    (sitofp .f32 (extui 32 (cmpf .oeq (broadcastTo S1024x1024 ic broadcasts_S1024x1_S1024x1024)
      (broadcastTo S1024x1024 idx broadcasts_S1x1024_S1024x1024)) natLt_1_32))
    (constant S64x1024 .f32 0x00000000#32)

/-- The code nearest to every row of the slab. -/
def quant (w : FVec F S64x1024 .f32) (ic : FVec F S1024x1 .f32) (x : FVec F S64x1024 .f32) : FVec F S64x1024 .f32 :=
  pick w ic (search (normW w) ic (normX x) (cross w x))

/-- What is stored for the slab: `x + (q - x)`. -/
def outSlab (w : FVec F S64x1024 .f32) (ic : FVec F S1024x1 .f32) (x : FVec F S64x1024 .f32) : FVec F S1x64x1024 .f32 :=
  shapeCast S1x64x1024 (addf x (subf (quant w ic x) x)) shapeCasts_S64x1024_S1x64x1024

/-- The slab's share of the loss: the sum of `(x - q)²`. -/
def lossSlab (w : FVec F S64x1024 .f32) (ic : FVec F S1024x1 .f32) (x : FVec F S64x1024 .f32) : F .f32 :=
  extractAt ![0, 0, 0] (shapeCast S1x1x1 (multiReduction .add [1, 2] S1
    (shapeCast S1x64x1024 (mulf (subf x (quant w ic x)) (subf x (quant w ic x))) shapeCasts_S64x1024_S1x64x1024)
    0x00000000#32 reduces_S1x64x1024_S1 (.inl rfl) rfl) shapeCasts_S1_S1x1x1) inpos_S1x1x1_p0_0_0

/-- A slab as a matrix: its leading axis of extent one dropped. -/
def mat (v : Vec F S1x64x1024 .f32) : FVec F S64x1024 .f32 := shapeCast S64x1024 v shapeCasts_S1x64x1024_S64x1024

/-- The sum of the four slabs' shares, from zero. -/
def lossBlk (w : FVec F S64x1024 .f32) (ic : FVec F S1024x1 .f32) (x₀ x₁ x₂ x₃ : FVec F S64x1024 .f32) : F .f32 :=
  Scalar.addf (Scalar.addf (Scalar.addf (Scalar.addf (Scalar.ofBits .f32 0x00000000#32) (lossSlab w ic x₀)) (lossSlab w ic x₁)) (lossSlab w ic x₂))
    (lossSlab w ic x₃)

/-- The running loss after a grid point: the old one — nothing at point `0` — plus the block's, and at point `3` scaled. -/
def runLoss (i : BitVec 32) (l : F .f32) (old : Vec F S1x1x1 .f32) : FVec F S1x1x1 .f32 :=
  let s : FVec F S1x1x1 .f32 := addf (Scalar.select (Scalar.cmpi .eq i 0#32) (broadcast S1x1x1 (Scalar.ofBits .f32 0x00000000#32))
    (shapeCast S1x1x1 old shapeCasts_S1x1x1_S1x1x1)) (broadcast S1x1x1 l)
  Scalar.select (Scalar.cmpi .eq i 3#32) (mulf s (broadcast S1x1x1 (Scalar.ofBits .f32 0x34800000#32))) s

end Cert.KernelIdeal.Hand

end
-- ==== Proof.BodyOut.lean ====
/- What the body leaves in the two output buffers, as values of what it found in the four it reads: the block of the
   first result slab by slab, and the running loss. -/
module

public import proofs.«01_k».proof.Proof.BodyRun
public import proofs.«01_k».proof.Proof.SlabOps
public import Idealize.ShloMosaic.Lib.WholeRead
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe
open Idealize.SL Idealize.SL.Sem

variable {F : FTy → Type} [FloatOps F]

/-- The transposed table of codes, as the body uses it. -/
def codes (x1 : Vec F S64x1024 .f32) : FVec F S64x1024 .f32 := shapeCast S64x1024 x1 shapeCasts_S64x1024_S64x1024

/-- The four slabs of an input block. -/
def slab0 (x0 : Vec F S4x64x1024 .f32) : FVec F S64x1024 .f32 := mat (View.ld x0 (Rect.unit (s := S4x64x1024) ![0, 0, 0] S1x64x1024.size inb_S4x64x1024_S1x64x1024_0_0_0))
@[inherit_doc slab0]
def slab1 (x0 : Vec F S4x64x1024 .f32) : FVec F S64x1024 .f32 := mat (View.ld x0 (Rect.unit (s := S4x64x1024) ![1, 0, 0] S1x64x1024.size inb_S4x64x1024_S1x64x1024_1_0_0))
@[inherit_doc slab0]
def slab2 (x0 : Vec F S4x64x1024 .f32) : FVec F S64x1024 .f32 := mat (View.ld x0 (Rect.unit (s := S4x64x1024) ![2, 0, 0] S1x64x1024.size inb_S4x64x1024_S1x64x1024_2_0_0))
@[inherit_doc slab0]
def slab3 (x0 : Vec F S4x64x1024 .f32) : FVec F S64x1024 .f32 := mat (View.ld x0 (Rect.unit (s := S4x64x1024) ![3, 0, 0] S1x64x1024.size inb_S4x64x1024_S1x64x1024_3_0_0))

/-- The four pieces stored in the block of the first result, the last stored first. -/
def outPieces (x0 : Vec F S4x64x1024 .f32) (x1 : Vec F S64x1024 .f32) (x2 : Vec F S1024x1 .f32) : List (View.Piece (Elt F) S4x64x1024 .f32) :=
  [⟨Rect.unit (s := S4x64x1024) ![3, 0, 0] S1x64x1024.size inb_S4x64x1024_S1x64x1024_3_0_0, outSlab (codes x1) x2 (slab3 x0)⟩,
   ⟨Rect.unit (s := S4x64x1024) ![2, 0, 0] S1x64x1024.size inb_S4x64x1024_S1x64x1024_2_0_0, outSlab (codes x1) x2 (slab2 x0)⟩,
   ⟨Rect.unit (s := S4x64x1024) ![1, 0, 0] S1x64x1024.size inb_S4x64x1024_S1x64x1024_1_0_0, outSlab (codes x1) x2 (slab1 x0)⟩,
   ⟨Rect.unit (s := S4x64x1024) ![0, 0, 0] S1x64x1024.size inb_S4x64x1024_S1x64x1024_0_0_0, outSlab (codes x1) x2 (slab0 x0)⟩]

/-- The running loss the body leaves, at grid point `i`. -/
def lossOut (i : grid0.Coords) (x0 : Vec F S4x64x1024 .f32) (x1 : Vec F S64x1024 .f32) (x2 : Vec F S1024x1 .f32) (old : Vec F S1x1x1 .f32) :
    FVec F S1x1x1 .f32 :=
  runLoss (BitVec.ofNat 32 (i 0).val) (lossBlk (codes x1) x2 (slab0 x0) (slab1 x0) (slab2 x0) (slab3 x0)) old

variable (c : Dev nD) (i : grid0.Coords) (arg1 : Memref sig .tc .vmem S4x64x1024 .f32) (harg1 : arg1.IsWhole)
    (arg2 : Memref sig .tc .vmem S64x1024 .f32) (harg2 : arg2.IsWhole) (arg3 : Memref sig .tc .vmem S1024x1 .f32) (harg3 : arg3.IsWhole)
    (arg4 : Memref sig .tc .vmem S4x64x1024 .f32) (harg4 : arg4.IsWhole) (arg5 : Memref sig .tc .vmem S1x1x1 .f32) (harg5 : arg5.IsWhole)
    (x0 : Vec F S4x64x1024 .f32) (x1 : Vec F S64x1024 .f32) (x2 : Vec F S1024x1 .f32) (xo4 : Vec F S1x1x1 .f32)

/-- The pieces of the body's run that lie in the first result are the four slabs. -/
theorem bodyRun_out : (bodyRun c i arg1 harg1 arg2 harg2 arg3 harg3 arg4 harg4 arg5 harg5 x0 x1 x2 xo4).1 = outPieces x0 x1 x2 := by
  refine (show _ = outPieces (arg1.view.read (Elt F) (harg1.unread x0))
    (View.ld (arg2.view.read (Elt F) (harg2.unread x1)) (Rect.unit (s := S64x1024) ![0, 0] S64x1024.size inb_S64x1024_S64x1024_0_0))
    (View.ld (arg3.view.read (Elt F) (harg3.unread x2)) (Rect.unit (s := S1024x1) ![0, 0] S1024x1.size inb_S1024x1_S1024x1_0_0)) from rfl).trans ?_
  rw [harg1.read_unread, harg2.read_unread, harg3.read_unread, View.ld_unit_lit _ x1 (by decide), View.ld_unit_lit _ x2 (by decide)]

/-- The one piece of the body's run that lies in the running loss is the whole of it. -/
theorem bodyRun_loss : (bodyRun c i arg1 harg1 arg2 harg2 arg3 harg3 arg4 harg4 arg5 harg5 x0 x1 x2 xo4).2.1
    = [⟨Rect.unit (s := S1x1x1) ![0, 0, 0] S1x1x1.size inb_S1x1x1_S1x1x1_0_0_0, lossOut i x0 x1 x2 xo4⟩] := by
  refine (show (bodyRun c i arg1 harg1 arg2 harg2 arg3 harg3 arg4 harg4 arg5 harg5 x0 x1 x2 xo4).2.1 = [⟨Rect.unit (s := S1x1x1) ![0, 0, 0] S1x1x1.size inb_S1x1x1_S1x1x1_0_0_0, lossOut i (arg1.view.read (Elt F) (harg1.unread x0))
    (View.ld (arg2.view.read (Elt F) (harg2.unread x1)) (Rect.unit (s := S64x1024) ![0, 0] S64x1024.size inb_S64x1024_S64x1024_0_0))
    (View.ld (arg3.view.read (Elt F) (harg3.unread x2)) (Rect.unit (s := S1024x1) ![0, 0] S1024x1.size inb_S1024x1_S1024x1_0_0))
    (View.ld (arg5.view.read (Elt F) (harg5.unread xo4)) (Rect.unit (s := S1x1x1) ![0, 0, 0] S1x1x1.size inb_S1x1x1_S1x1x1_0_0_0))⟩] from rfl).trans ?_
  rw [harg1.read_unread, harg2.read_unread, harg3.read_unread, harg5.read_unread, View.ld_unit_lit _ x1 (by decide),
    View.ld_unit_lit _ x2 (by decide), View.ld_unit_lit _ xo4 (by decide)]

end Cert.KernelIdeal.Hand

end
-- ==== Proof.KernelRun.lean ====
/- The run of the whole program: the proof data of its one pipeline — what every staging buffer holds after each grid
   point — the body's obligation at a generic point, and the launch with both results named. -/
module

public import proofs.«01_k».proof.Proof.BodyOut
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The one coordinate of grid point `t` is `t`. -/
theorem coord_val : ∀ t : Fin cfg0.N, (grid0.coords t 0).val = t.val := by
  show ∀ t : Fin grid0.N, _
  decide

/-- The block of the first result after point `t`. -/
def outAt (c : Dev nD) (t : Fin cfg0.N) : Vec F S4x64x1024 .f32 := View.canon (outPieces (iblk m c 0 t) (iblk m c 1 t) (iblk m c 2 t))

/-- The running loss after point `n`: the body's, over what point `n - 1` left; at point `0` over zero. -/
def lossAt (c : Dev nD) : (n : ℕ) → n < cfg0.N → Vec F S1x1x1 .f32
  | 0, hn => lossOut (grid0.coords ⟨0, hn⟩) (iblk m c 0 ⟨0, hn⟩) (iblk m c 1 ⟨0, hn⟩) (iblk m c 2 ⟨0, hn⟩) (broadcast S1x1x1 (Scalar.ofBits .f32 0x00000000#32))
  | n + 1, hn => lossOut (grid0.coords ⟨n + 1, hn⟩) (iblk m c 0 ⟨n + 1, hn⟩) (iblk m c 1 ⟨n + 1, hn⟩) (iblk m c 2 ⟨n + 1, hn⟩)
      (lossAt c n (Nat.lt_of_succ_lt hn))

/-- At point `0` the body's loss does not depend on what the buffer held. -/
theorem lossOut_first (i : grid0.Coords) (hi : (i 0).val = 0) (x0 : Vec F S4x64x1024 .f32) (x1 : Vec F S64x1024 .f32) (x2 : Vec F S1024x1 .f32)
    (old old' : Vec F S1x1x1 .f32) : lossOut i x0 x1 x2 old = lossOut i x0 x1 x2 old' := by
  unfold lossOut runLoss
  rw [hi]
  rfl

/-- The running loss at a point that is not the first, over what the point before left. -/
theorem lossAt_succ (c : Dev nD) (t : Fin cfg0.N) (h0 : ¬t.val = 0) :
    lossAt m c t.val t.isLt = lossOut (grid0.coords t) (iblk m c 0 t) (iblk m c 1 t) (iblk m c 2 t)
      (lossAt m c (t.val - 1) (Nat.lt_of_le_of_lt (Nat.sub_le _ _) t.isLt)) := by
  obtain ⟨n, hn⟩ := t
  cases n with
  | zero => exact absurd rfl h0
  | succ n => rfl

/-- The running loss at the first point, over anything. -/
theorem lossAt_zero (c : Dev nD) (t : Fin cfg0.N) (h0 : t.val = 0) (old : Vec F S1x1x1 .f32) :
    lossAt m c t.val t.isLt = lossOut (grid0.coords t) (iblk m c 0 t) (iblk m c 1 t) (iblk m c 2 t) old := by
  obtain ⟨n, hn⟩ := t
  cases n with
  | zero => exact lossOut_first _ (coord_val ⟨0, hn⟩) _ _ _ _ _
  | succ n => exact absurd h0 (Nat.succ_ne_zero n)

/-! ## The pipeline's proof data -/

/-- The proof data on core `c`: the arrays as the region finds them; after the body at point `t` each input's buffer at
    its block, the outputs' at `outAt` and `lossAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => lossAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem after_4 (c : Dev nD) (t : Fin cfg0.N) : (dats m 0 c).after 4 t = lossAt m c t.val t.isLt := by dsimp only [dats]

/-- Each input's staging buffer holds its block before the body, at every point. -/
theorem before_0 (c : Dev nD) (t : Fin cfg0.N) (d) : (dats m 0 c).before 0 t d = iblk m c 0 t :=
  before0_0_of m (dats m 0 c) (A_eq m c 0) (after_0 m c) t d
@[inherit_doc before_0]
theorem before_1 (c : Dev nD) (t : Fin cfg0.N) (d) : (dats m 0 c).before 1 t d = iblk m c 1 t :=
  before0_1_of m (dats m 0 c) (A_eq m c 1) (after_1 m c) t d
@[inherit_doc before_0]
theorem before_2 (c : Dev nD) (t : Fin cfg0.N) (d) : (dats m 0 c).before 2 t d = iblk m c 2 t :=
  before0_2_of m (dats m 0 c) (A_eq m c 2) (after_2 m c) t d

/-- At a point that is not the first the running loss is what the point before left: it is not written back between. -/
theorem before_4 (c : Dev nD) (t : Fin cfg0.N) (h0 : ¬t.val = 0) (d) :
    (dats m 0 c).before 4 t d = lossAt m c (t.val - 1) (Nat.lt_of_le_of_lt (Nat.sub_le _ _) t.isLt) := by
  have hN : t.val < 4 := lt_of_lt_of_eq t.isLt (show cfg0.N = 4 from N_0)
  rw [Dat.before_out_kept _ 4 rfl t (by omega) (Bool.eq_false_iff.mpr fun h => by have := (flush0_4 _).mp h; dsimp only at this; omega)
    (fun _ => rfl) (fun _ _ => rfl)]
  dsimp only [dats]

/-- Whatever the running loss's buffer holds before the body at point `t`, the body leaves `lossAt` there. -/
theorem lossAt_eq (c : Dev nD) (t : Fin cfg0.N) (d) :
    lossOut (grid0.coords t) (iblk m c 0 t) (iblk m c 1 t) (iblk m c 2 t) ((dats m 0 c).before 4 t d) = lossAt m c t.val t.isLt := by
  by_cases h0 : t.val = 0
  · exact (lossAt_zero m c t h0 _).symm
  · rw [before_4 m c t h0, lossAt_succ m c t h0]

/-! ## The body obligation, at a generic point -/

/-- The staging buffers at point `t`, whole. -/
abbrev ms0 (t : Fin cfg0.N) : Memref sig .tc .vmem S4x64x1024 .f32 := win0_0.stage (cfg0.slots t 0)
abbrev ms1 (t : Fin cfg0.N) : Memref sig .tc .vmem S64x1024 .f32 := win0_1.stage (cfg0.slots t 1)
abbrev ms2 (t : Fin cfg0.N) : Memref sig .tc .vmem S1024x1 .f32 := win0_2.stage (cfg0.slots t 2)
abbrev ms3 (t : Fin cfg0.N) : Memref sig .tc .vmem S4x64x1024 .f32 := win0_3.stage (cfg0.slots t 3)
abbrev ms4 (t : Fin cfg0.N) : Memref sig .tc .vmem S1x1x1 .f32 := win0_4.stage (cfg0.slots t 4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The four slabs cover the block. -/
theorem outPieces_cover (x0 : Vec F S4x64x1024 .f32) (x1 : Vec F S64x1024 .f32) (x2 : Vec F S1024x1 .f32) (y : S4x64x1024.Idx) :
    ∃ p ∈ outPieces x0 x1 x2, y ∈ p.1.set :=
  View.cover_of_tiledL (outPieces x0 x1 x2) S1x64x1024.size (by sl_kernel_rfl) y

set_option maxHeartbeats 800000 in
/-- The body at any point: the run of `bodyRun` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) ((dats m 0 c).before 4 t d4)).2.2 Set.univ _)
  isplitl [H0]; · iexact H0
  isplitl [H1]; · iexact H1
  isplitl [H2]; · iexact H2
  isplitl [H3]; · iexists _; iexact H3
  isplitl [H4]; · iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro
    rw [bodyRun_out]
    exact View.read_writes_eq_canon _ _ _ (outPieces_cover _ _ _)
  unfold owns; iexists _; isplitr
  swap; · iexact H4
  ipureintro
  rw [bodyRun_loss, ← lossAt_eq m c t d4]
  exact (View.read_writes_eq_canon _ _ _ (View.cover_of_tiledL _ S1x1x1.size (by sl_kernel_rfl))).trans (View.canon_cons_unit_lit _ _ _ (by decide))

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every weakly fair execution of the program terminates, every array of the pipeline at what the proof data
    say, every other buffer as the host lines after the region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: both arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.FirstMin.lean ====
/- The first place at which a finite sequence attains its least value: existence, uniqueness, how the first place over a
   range splits over two halves, and the two ways of searching for it — a running pair, and a minimum followed by the
   least index attaining it. -/
module

public import Mathlib.Data.EReal.Basic
public import Mathlib.Data.Finset.Fold
public import Mathlib.Data.Fintype.Basic

@[expose] public section

namespace Cert.First

/-- `n` is the first place of `[lo, hi)` at which `d` is least there. -/
def IsFirst (d : ℕ → EReal) (lo hi n : ℕ) : Prop :=
  lo ≤ n ∧ n < hi ∧ (∀ k, lo ≤ k → k < hi → d n ≤ d k) ∧ ∀ k, lo ≤ k → k < n → d n < d k

/-- There is only one such place. -/
theorem IsFirst.unique {d : ℕ → EReal} {lo hi n n' : ℕ} (h : IsFirst d lo hi n) (h' : IsFirst d lo hi n') : n = n' := by
  obtain ⟨a, b, c, e⟩ := h
  obtain ⟨a', b', c', e'⟩ := h'
  rcases lt_trichotomy n n' with hl | he | hl
  · exact absurd (c n' a' b') (not_le.mpr (e' n a hl))
  · exact he
  · exact absurd (c' n a b) (not_le.mpr (e n' a' hl))

/-- Where two sequences agree they have the same first place. -/
theorem IsFirst.congr {d d' : ℕ → EReal} {lo hi n : ℕ} (h : IsFirst d lo hi n) (he : ∀ k, lo ≤ k → k < hi → d k = d' k) :
    IsFirst d' lo hi n := by
  obtain ⟨a, b, c, e⟩ := h
  refine ⟨a, b, fun k hk hk' => ?_, fun k hk hk' => ?_⟩
  · rw [← he n a b, ← he k hk hk']; exact c k hk hk'
  · rw [← he n a b, ← he k hk (hk'.trans b)]; exact e k hk hk'

/-- The first place over two adjoining ranges: the second range's if its value is strictly below the first's, else the
    first's. -/
theorem IsFirst.append {d : ℕ → EReal} {lo mid hi n n' : ℕ} (h : IsFirst d lo mid n) (h' : IsFirst d mid hi n') :
    IsFirst d lo hi (if d n' < d n then n' else n) := by
  obtain ⟨a, b, c, e⟩ := h
  obtain ⟨a', b', c', e'⟩ := h'
  split_ifs with hlt
  · refine ⟨by omega, b', fun k hk hk' => ?_, fun k hk hk' => ?_⟩
    · rcases lt_or_ge k mid with h1 | h1
      · exact (hlt.trans_le (c k hk h1)).le
      · exact c' k h1 hk'
    · rcases lt_or_ge k mid with h1 | h1
      · exact hlt.trans_le (c k hk h1)
      · exact e' k h1 hk'
  · refine ⟨a, by omega, fun k hk hk' => ?_, e⟩
    rcases lt_or_ge k mid with h1 | h1
    · exact c k hk h1
    · exact (not_lt.mp hlt).trans (c' k h1 hk')

/-- One place is the first of its own range. -/
theorem isFirst_single (d : ℕ → EReal) (n : ℕ) : IsFirst d n (n + 1) n :=
  ⟨le_refl n, n.lt_succ_self, fun k h h' => by rw [show k = n by omega], fun k h h' => by omega⟩

/-- A nonempty range has a first place. -/
theorem exists_isFirst (d : ℕ → EReal) (lo : ℕ) : ∀ k, ∃ n, IsFirst d lo (lo + (k + 1)) n
  | 0 => ⟨lo, isFirst_single d lo⟩
  | k + 1 => by
      obtain ⟨n, hn⟩ := exists_isFirst d lo k
      exact ⟨_, hn.append (isFirst_single d (lo + (k + 1)))⟩

/-- The first place of `[0, 1024)` at which `d` is least. -/
noncomputable def first (d : Fin 1024 → EReal) : Fin 1024 :=
  have h := exists_isFirst (fun k => if h : k < 1024 then d ⟨k, h⟩ else 0) 0 1023
  ⟨h.choose, by have := h.choose_spec.2.1; omega⟩

/-- A place that is first is `first`. -/
theorem eq_first {d : Fin 1024 → EReal} {d' : ℕ → EReal} (he : ∀ k (h : k < 1024), d' k = d ⟨k, h⟩) {n : ℕ} (h : IsFirst d' 0 1024 n) :
    n = (first d).val := by
  have hs := (exists_isFirst (fun k => if h : k < 1024 then d ⟨k, h⟩ else 0) 0 1023).choose_spec
  refine (h.congr fun k _ hk => ?_).unique hs
  rw [he k hk]
  simp only [hk, dite_true]

/-! ## The search of a block: the least value, then the least index attaining it -/

/-- The least of `c` values is the value at the first place. -/
theorem fold_min_eq {d : ℕ → EReal} {lo c n : ℕ} (f : Fin c → EReal) (hf : ∀ j : Fin c, f j = d (lo + j.val)) (hn : IsFirst d lo (lo + c) n) :
    (Finset.univ : Finset (Fin c)).fold min ⊤ f = d n := by
  obtain ⟨a, b, h, -⟩ := hn
  apply le_antisymm
  · refine (Finset.fold_min_le _).mpr (Or.inr ⟨⟨n - lo, by omega⟩, Finset.mem_univ _, ?_⟩)
    rw [hf]
    exact le_of_eq (congrArg d (by simp only []; omega))
  · refine (Finset.le_fold_min _).mpr ⟨le_top, fun j _ => ?_⟩
    rw [hf]
    exact h _ (by omega) (by omega)

/-- The least index at which the least value is attained is the first place; elsewhere a number larger than every index
    stands. -/
theorem fold_min_place {d : ℕ → EReal} {lo c n : ℕ} (big : EReal) (hbig : ((n : ℝ) : EReal) ≤ big) (g : Fin c → EReal) (hn : IsFirst d lo (lo + c) n)
    (hg : ∀ j : Fin c, g j = if d (lo + j.val) = d n then (((lo + j.val : ℕ) : ℝ) : EReal) else big) :
    (Finset.univ : Finset (Fin c)).fold min ⊤ g = ((n : ℝ) : EReal) := by
  obtain ⟨a, b, h, h'⟩ := hn
  apply le_antisymm
  · refine (Finset.fold_min_le _).mpr (Or.inr ⟨⟨n - lo, by omega⟩, Finset.mem_univ _, ?_⟩)
    have e : lo + (n - lo) = n := by omega
    rw [hg]
    simp only [e, if_true, le_refl]
  · refine (Finset.le_fold_min _).mpr ⟨le_top, fun j _ => ?_⟩
    rw [hg]
    split_ifs with he
    · have : n ≤ lo + j.val := by
        by_contra hlt
        exact absurd he (ne_of_gt (h' _ (by omega) (by omega)))
      exact_mod_cast this
    · exact hbig

end Cert.First

end
-- ==== Proof.Digits.lean ====
/- The numbers the two programs' constants denote: the column of code indices `0, …, 1023` and the single literals. -/
module

public import proofs.«01_k».proof.Proof.Gen.KernelIdeal
public import Idealize.ShloMosaic.PureOps.Ideal.Laws
public import Mathlib.Tactic.NormNum
public import Mathlib.Tactic.FieldSimp

@[expose] public section

noncomputable section

namespace Cert.Digits

open Idealize.ShloMosaic

/-- A bit pattern of a normal positive number: its sign is zero, and its significand is `n` scaled by the exponent. -/
theorem ofBits_nat (b : BitVec 32) (n : ℕ) (hs : b.extractLsb' 31 1 ≠ 1#1) (h₀ : (b.extractLsb' 23 8).toNat ≠ 0) (h₁ : (b.extractLsb' 23 8).toNat ≤ 150)
    (hm : 2 ^ 23 + (b.extractLsb' 0 23).toNat = n * 2 ^ (150 - (b.extractLsb' 23 8).toNat)) : Ideal.ofBits .f32 b = ((n : ℝ) : EReal) := by
  generalize he : (b.extractLsb' 23 8).toNat = e at *
  have hneg : (b.extractLsb' (8 + 23) 1 == 1#1) = false := by simpa using hs
  simp only [Ideal.ofBits, Ideal.ieee, he, hneg, hm]
  rw [if_neg (by omega), if_neg h₀]
  congr 1
  have h2 : (2 : ℝ) ^ (150 - e) * (2 : ℝ) ^ ((e : ℤ) - (2 ^ (8 - 1) - 1) - (23 : ℕ)) = 1 := by
    rw [← zpow_natCast, ← zpow_add₀ (by norm_num)]
    rw [show ((150 - e : ℕ) : ℤ) + ((e : ℤ) - (2 ^ (8 - 1) - 1) - (23 : ℕ)) = 0 by push_cast [h₁]; ring, zpow_zero]
  push_cast
  push_cast at h2
  simp only [Bool.false_eq_true, if_false, one_mul]
  rw [mul_assoc, h2, mul_one]

/-- The entries past the first are such patterns. -/
theorem lit0_check : ∀ n : Fin 1024, n.val = 0 ∨ ((Cert.KernelIdeal.lit0 n).extractLsb' 31 1 ≠ 1#1 ∧ ((Cert.KernelIdeal.lit0 n).extractLsb' 23 8).toNat ≠ 0 ∧
    ((Cert.KernelIdeal.lit0 n).extractLsb' 23 8).toNat ≤ 150 ∧
    2 ^ 23 + ((Cert.KernelIdeal.lit0 n).extractLsb' 0 23).toNat = n.val * 2 ^ (150 - ((Cert.KernelIdeal.lit0 n).extractLsb' 23 8).toNat)) := by
  decide +kernel

/-- Entry `n` of the column denotes `n`. -/
theorem lit0_value (n : Fin 1024) : Ideal.ofBits .f32 (Cert.KernelIdeal.lit0 n) = ((n.val : ℝ) : EReal) := by
  rcases lit0_check n with h | ⟨hs, h₀, h₁, hm⟩
  · obtain rfl : n = 0 := Fin.ext h
    rw [show Cert.KernelIdeal.lit0 0 = 0x00000000#32 by decide +kernel, Ideal.ofBits_zero_f32]
    simp
  · exact ofBits_nat _ n.val hs h₀ h₁ hm

theorem ofBits_inf : Ideal.ofBits .f32 0x7F800000#32 = ⊤ := by simp [Ideal.ofBits, Ideal.ieee]
theorem ofBits_big : Ideal.ofBits .f32 0x44800000#32 = ((1024 : ℝ) : EReal) := by
  exact_mod_cast ofBits_nat 0x44800000#32 1024 (by decide) (by decide) (by decide) (by decide)
theorem ofBits_two : Ideal.ofBits .f32 0x40000000#32 = ((2 : ℝ) : EReal) := by
  exact_mod_cast ofBits_nat 0x40000000#32 2 (by decide) (by decide) (by decide) (by decide)
theorem ofBits_count : Ideal.ofBits .f32 0x49800000#32 = ((2 ^ 20 : ℝ) : EReal) := by
  exact_mod_cast ofBits_nat 0x49800000#32 (2 ^ 20) (by decide) (by decide) (by decide) (by decide)
theorem ofBits_neg_two : Ideal.ofBits .f32 0xC0000000#32 = ((-2 : ℝ) : EReal) := by
  simp [Ideal.ofBits, Ideal.ieee, -EReal.coe_mul]; norm_num
theorem ofBits_quarter : Ideal.ofBits .f32 0x3E800000#32 = ((4⁻¹ : ℝ) : EReal) := by
  simp [Ideal.ofBits, Ideal.ieee, -EReal.coe_mul]; norm_num
theorem ofBits_scale : Ideal.ofBits .f32 0x34800000#32 = (((2 ^ 22)⁻¹ : ℝ) : EReal) := by
  simp [Ideal.ofBits, Ideal.ieee, -EReal.coe_mul]; norm_num

end Cert.Digits

end
-- ==== Proof.SlabMath.lean ====
/- What the kernel's work on one slab computes, over the extended reals: the distances, the index of the first nearest code,
   the code picked, and the slab's share of the loss. -/
module

public import proofs.«01_k».proof.Proof.SlabOps
public import proofs.«01_k».proof.Proof.FirstMin
public import proofs.«01_k».proof.Proof.Digits
public import Idealize.ShloMosaic.Lib.Pointwise

@[expose] public section

noncomputable section

namespace Cert.KernelIdeal.Hand

open Cert.KernelIdeal.Gen Cert.First Cert.Digits
open Idealize.ShloMosaic

/-- The kernel's distance of code `n` to row `r`, the codes and the rows standing in columns. -/
def distK (w x : FVec Ideal S64x1024 .f32) (r n : Fin 1024) : EReal :=
  (∑ f : Fin 64, w (ix2 f n) * w (ix2 f n)) + (∑ f : Fin 64, x (ix2 f r) * x (ix2 f r)) + ∑ f : Fin 64, w (ix2 f n) * ((-2 : ℝ) : EReal) * x (ix2 f r)

/-- The first code nearest to row `r`. -/
def nearest (w x : FVec Ideal S64x1024 .f32) (r : Fin 1024) : Fin 1024 := first (distK w x r)

/-- A block's distances are the kernel's distances of its codes. -/
theorem dist_apply (o : ℕ) (h₁ : S1024x1.Slices ![o, 0] S256x1) (h₂ : S1024x1024.Slices ![o, 0] S256x1024) (w x : FVec Ideal S64x1024 .f32)
    (j : Fin 256) (r : Fin 1024) (ho : o + j.val < 1024) :
    dist o h₁ h₂ (normW w) (normX x) (cross w x) (ix2 j r) = distK w x r ⟨o + j.val, ho⟩ := by
  unfold dist distK normW normX cross
  pointwise
  rw [ofBits_neg_two]

/-- The least entry of a column of a block is the value at the first place it is attained. -/
theorem lowest_apply {v : ℕ → EReal} {o n : ℕ} (d : FVec Ideal S256x1024 .f32) (r : Fin 1024) (hd : ∀ j : Fin 256, d (ix2 j r) = v (o + j.val))
    (hn : IsFirst v o (o + 256) n) : lowest d (ix2 0 r) = v n := by
  unfold lowest
  pointwise
  rw [ofBits_inf]
  exact fold_min_eq _ hd hn

/-- The place found in a block is the first place of its least entry. -/
theorem place_apply {v : ℕ → EReal} {o n : ℕ} (h : S1024x1.Slices ![o, 0] S256x1) (ic : FVec Ideal S1024x1 .f32) (d : FVec Ideal S256x1024 .f32)
    (hic : ∀ k : Fin 1024, ic (ix2 k 0) = ((k.val : ℝ) : EReal)) (r : Fin 1024) (hd : ∀ j : Fin 256, d (ix2 j r) = v (o + j.val))
    (ho : o + 256 ≤ 1024) (hn : IsFirst v o (o + 256) n) : place o h ic d (ix2 0 r) = ((n : ℝ) : EReal) := by
  have hl := lowest_apply d r hd hn
  unfold place
  generalize lowest d = l at hl
  unfold lowest
  pointwise
  rw [ofBits_inf, ofBits_big]
  refine fold_min_place ((1024 : ℝ) : EReal) ?_ _ hn fun j => ?_
  · have := hn.2.1
    exact_mod_cast (by omega : n ≤ 1024)
  · rw [hl, hd, hic]

/-- The search finds the first nearest code. -/
theorem search_apply (w x : FVec Ideal S64x1024 .f32) (ic : FVec Ideal S1024x1 .f32) (hic : ∀ k : Fin 1024, ic (ix2 k 0) = ((k.val : ℝ) : EReal))
    (r : Fin 1024) : search (normW w) ic (normX x) (cross w x) (ix2 0 r) = (((nearest w x r).val : ℝ) : EReal) := by
  let v : ℕ → EReal := fun k => if h : k < 1024 then distK w x r ⟨k, h⟩ else 0
  have hd : ∀ (o : ℕ) (h₁ : S1024x1.Slices ![o, 0] S256x1) (h₂ : S1024x1024.Slices ![o, 0] S256x1024) (ho : o + 256 ≤ 1024) (j : Fin 256),
      dist o h₁ h₂ (normW w) (normX x) (cross w x) (ix2 j r) = v (o + j.val) := by
    intro o h₁ h₂ ho j
    have hj : o + j.val < 1024 := by omega
    rw [dist_apply o h₁ h₂ w x j r hj]
    simp only [v, hj, dite_true]
  obtain ⟨n0, f0⟩ := exists_isFirst v 0 255
  obtain ⟨n1, f1⟩ := exists_isFirst v 256 255
  obtain ⟨n2, f2⟩ := exists_isFirst v 512 255
  obtain ⟨n3, f3⟩ := exists_isFirst v 768 255
  have h := ((f0.append f1).append f2).append f3
  have e : ((if v n3 < v (if v n2 < v (if v n1 < v n0 then n1 else n0) then n2 else if v n1 < v n0 then n1 else n0) then n3 else
    if v n2 < v (if v n1 < v n0 then n1 else n0) then n2 else if v n1 < v n0 then n1 else n0 : ℕ)) = (nearest w x r).val :=
    eq_first (fun k hk => by simp only [v, hk, dite_true]) h
  unfold search
  let d0 := dist 0 slices_S1024x1_o0_0_S256x1 slices_S1024x1024_o0_0_S256x1024 (normW w) (normX x) (cross w x)
  let d1 := dist 256 slices_S1024x1_o256_0_S256x1 slices_S1024x1024_o256_0_S256x1024 (normW w) (normX x) (cross w x)
  let d2 := dist 512 slices_S1024x1_o512_0_S256x1 slices_S1024x1024_o512_0_S256x1024 (normW w) (normX x) (cross w x)
  let d3 := dist 768 slices_S1024x1_o768_0_S256x1 slices_S1024x1024_o768_0_S256x1024 (normW w) (normX x) (cross w x)
  have l0 : lowest d0 (ix2 0 r) = v n0 := lowest_apply d0 r (hd 0 _ _ (by omega)) f0
  have l1 : lowest d1 (ix2 0 r) = v n1 := lowest_apply d1 r (hd 256 _ _ (by omega)) f1
  have l2 : lowest d2 (ix2 0 r) = v n2 := lowest_apply d2 r (hd 512 _ _ (by omega)) f2
  have l3 : lowest d3 (ix2 0 r) = v n3 := lowest_apply d3 r (hd 768 _ _ (by omega)) f3
  have p0 := place_apply slices_S1024x1_o0_0_S256x1 ic d0 hic r (hd 0 _ _ (by omega)) (by omega) f0
  have p1 := place_apply slices_S1024x1_o256_0_S256x1 ic d1 hic r (hd 256 _ _ (by omega)) (by omega) f1
  have p2 := place_apply slices_S1024x1_o512_0_S256x1 ic d2 hic r (hd 512 _ _ (by omega)) (by omega) f2
  have p3 := place_apply slices_S1024x1_o768_0_S256x1 ic d3 hic r (hd 768 _ _ (by omega)) (by omega) f3
  rw [← e]
  have hk : ∀ (best idx low pl : FVec Ideal S1x1024 .f32) (b l : ℕ), best (ix2 0 r) = v b → low (ix2 0 r) = v l →
      idx (ix2 0 r) = ((b : ℝ) : EReal) → pl (ix2 0 r) = ((l : ℝ) : EReal) →
      keep best idx low pl (ix2 0 r) = (((if v l < v b then l else b : ℕ) : ℝ) : EReal) := by
    intro best idx low pl b l hb hl hi hp
    unfold keep
    pointwise
    rw [hb, hl, hi, hp]
    split_ifs <;> rfl
  have hm : ∀ (best low : FVec Ideal S1x1024 .f32) (b l : ℕ), best (ix2 0 r) = v b → low (ix2 0 r) = v l →
      minimumf best low (ix2 0 r) = v (if v l < v b then l else b) := by
    intro best low b l hb hl
    pointwise
    rw [hb, hl]
    split_ifs with hlt
    · exact min_eq_right hlt.le
    · exact min_eq_left (not_lt.mp hlt)
  have m1 := hm _ _ _ _ l0 l1
  have m2 := hm _ _ _ _ m1 l2
  have k1 := hk _ _ _ _ _ _ l0 l1 p0 p1
  have k2 := hk _ _ _ _ _ _ m1 l2 k1 p2
  exact hk _ _ _ _ _ _ m2 l3 k2 p3

/-- A test read as a number: one where it holds. -/
theorem one_hot_true (p : Prop) [Decidable p] (h : p) :
    (FloatOps.sitofp .f32 (BitVec.setWidth 32 (BitVec.ofBool (decide p))) : Ideal .f32) = (1 : EReal) := by
  simp only [h, decide_true]
  show (((BitVec.setWidth 32 (BitVec.ofBool true)).toInt : ℝ) : EReal) = 1
  rw [show (BitVec.setWidth 32 (BitVec.ofBool true)).toInt = 1 by decide]
  norm_num

/-- A test read as a number: zero where it fails. -/
theorem one_hot_false (p : Prop) [Decidable p] (h : ¬ p) :
    (FloatOps.sitofp .f32 (BitVec.setWidth 32 (BitVec.ofBool (decide p))) : Ideal .f32) = (0 : EReal) := by
  simp only [h, decide_false]
  show (((BitVec.setWidth 32 (BitVec.ofBool false)).toInt : ℝ) : EReal) = 0
  rw [show (BitVec.setWidth 32 (BitVec.ofBool false)).toInt = 0 by decide]
  norm_num

/-- The code picked for row `r` is the first nearest one. -/
theorem quant_apply (w x : FVec Ideal S64x1024 .f32) (ic : FVec Ideal S1024x1 .f32) (hic : ∀ k : Fin 1024, ic (ix2 k 0) = ((k.val : ℝ) : EReal))
    (f : Fin 64) (r : Fin 1024) : quant w ic x (ix2 f r) = w (ix2 f (nearest w x r)) := by
  have hs := search_apply w x ic hic r
  unfold quant
  generalize search (normW w) ic (normX x) (cross w x) = idx at hs
  unfold pick
  pointwise
  rw [hs]
  simp only [hic]
  rw [Finset.sum_eq_single (nearest w x r)]
  · rw [one_hot_true _ rfl, mul_one]
  · intro k _ hk
    rw [one_hot_false _ fun h => hk (Fin.ext (by exact_mod_cast h)), mul_zero]
  · exact fun h => absurd (Finset.mem_univ _) h

/-- What is stored for a slab, at feature `f` and row `r`. -/
theorem outSlab_apply (w x : FVec Ideal S64x1024 .f32) (ic : FVec Ideal S1024x1 .f32) (hic : ∀ k : Fin 1024, ic (ix2 k 0) = ((k.val : ℝ) : EReal))
    (f : Fin 64) (r : Fin 1024) : outSlab w ic x (ix3 0 f r) = x (ix2 f r) + (w (ix2 f (nearest w x r)) - x (ix2 f r)) := by
  rw [← quant_apply w x ic hic f r]
  unfold outSlab
  pointwise

/-- A slab's share of the loss. -/
theorem lossSlab_eq (w x : FVec Ideal S64x1024 .f32) (ic : FVec Ideal S1024x1 .f32) (hic : ∀ k : Fin 1024, ic (ix2 k 0) = ((k.val : ℝ) : EReal)) :
    lossSlab w ic x = ∑ f : Fin 64, ∑ r : Fin 1024,
      (x (ix2 f r) - w (ix2 f (nearest w x r))) * (x (ix2 f r) - w (ix2 f (nearest w x r))) := by
  simp only [← quant_apply w x ic hic]
  unfold lossSlab
  pointwise

end Cert.KernelIdeal.Hand

end
-- ==== Proof.Blocks.lean ====
/- What the kernel's body reads at a grid point, over the extended reals: point `t` reads the four batch entries
   `4 t, …, 4 t + 3`, transposed, the transposed codes, and the column of code indices. -/
module

public import proofs.«01_k».proof.Proof.KernelRun
public import proofs.«01_k».proof.Proof.SlabMath
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Digits
open Idealize.ShloMosaic Idealize.ShloMosaic.TcCoe Idealize.SL.Sem

variable (m : (ℓ : Loc nD τ sig) → Buf (Elt Ideal) ℓ)

/-- The windows' block indices. -/
theorem index_0 : ∀ t : Fin cfg0.N, win0_0.index t = ![t.val, 0, 0] := by
  show ∀ t : Fin grid0.N, _
  decide +kernel
theorem index_1 : ∀ t : Fin cfg0.N, win0_1.index t = ![0, 0] := by
  show ∀ t : Fin grid0.N, _
  decide +kernel
theorem index_2 : ∀ t : Fin cfg0.N, win0_2.index t = ![0, 0] := by
  show ∀ t : Fin grid0.N, _
  decide +kernel
theorem index_3 : ∀ t : Fin cfg0.N, win0_3.index t = ![t.val, 0, 0] := by
  show ∀ t : Fin grid0.N, _
  decide +kernel

theorem point_lt (t : Fin cfg0.N) : t.val < 4 := lt_of_lt_of_eq t.isLt (show cfg0.N = 4 from N_0)

/-- The transposed input, as the region finds it. -/
theorem entry_0 (c : Dev nD) (b : Fin 16) (f : Fin 64) (r : Fin 1024) :
    V m c main_v1 (ix3 b f r) = m ((c : Thread nD τ).loc main_arg0) (ix3 b r f) := by
  dsimp only [V, V0, hostOps0, List.flatten_cons, List.flatten_nil, List.append_nil, List.cons_append, List.nil_append]
  after_results_simp
  pointwise

/-- The transposed codes, as the region finds them. -/
theorem entry_1 (c : Dev nD) (f : Fin 64) (n : Fin 1024) :
    V m c main_v2 (ix2 f n) = m ((c : Thread nD τ).loc main_arg1) (ix2 n f) := by
  dsimp only [V, V0, hostOps0, List.flatten_cons, List.flatten_nil, List.append_nil, List.cons_append, List.nil_append]
  after_results_simp
  pointwise

/-- The column of code indices, as the region finds it. -/
theorem entry_2 (c : Dev nD) (n : Fin 1024) : V m c main_v0 (ix2 n 0) = ((n.val : ℝ) : EReal) := by
  dsimp only [V, V0, hostOps0, List.flatten_cons, List.flatten_nil, List.append_nil, List.cons_append, List.nil_append]
  after_results_simp
  pointwise
  rw [show S1024.rowMajor (ix1 n) = n from Fin.ext (rowMajor_val1 _)]
  exact lit0_value n

/-- The input's block. -/
theorem iblk_0 (c : Dev nD) (t : Fin cfg0.N) (k : Fin 4) (f : Fin 64) (r : Fin 1024) (h : 4 * t.val + k.val < 16) :
    iblk m c 0 t (ix3 k f r) = m ((c : Thread nD τ).loc main_arg0) (ix3 ⟨4 * t.val + k.val, h⟩ r f) := by
  refine Eq.trans ?_ (entry_0 m c ⟨4 * t.val + k.val, h⟩ f r)
  show V m c main_v1 (((cfg0.win 0).blk t).view.emb (ix3 k f r)) = _
  generalize V m c main_v1 = X
  blk_ext [index_0 t]

/-- The codes' block. -/
theorem iblk_1 (c : Dev nD) (t : Fin cfg0.N) (f : Fin 64) (n : Fin 1024) :
    iblk m c 1 t (ix2 f n) = m ((c : Thread nD τ).loc main_arg1) (ix2 n f) := by
  refine Eq.trans ?_ (entry_1 m c f n)
  show V m c main_v2 (((cfg0.win 1).blk t).view.emb (ix2 f n)) = _
  generalize V m c main_v2 = X
  blk_ext [index_1 t]

/-- The indices' block. -/
theorem iblk_2 (c : Dev nD) (t : Fin cfg0.N) (n : Fin 1024) :
    iblk m c 2 t (ix2 n 0) = ((n.val : ℝ) : EReal) := by
  refine Eq.trans ?_ (entry_2 m c n)
  show V m c main_v0 (((cfg0.win 2).blk t).view.emb (ix2 n 0)) = _
  generalize V m c main_v0 = X
  blk_ext [index_2 t]

end Cert.KernelIdeal.Hand

end
-- ==== Proof.ReferenceRun.lean ====
/- The run of the reference: its operations in order, and what its two results hold at the end, as named functions of
   the two arguments. -/
module

public import proofs.«01_k».proof.Proof.Gen.ReferenceIdeal
public import Idealize.ShloMosaic.Lib.StableHlo.Run
public import Idealize.ShloMosaic.Lib.Quiescent
public import Idealize.ShloMosaic.Lib.Claim

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference's values -/

/-- The distances: `|x|² + |w|² - 2 (x · w)` for every row of the input and every code. -/
def distR (x : FVec F S16x1024x64 .f32) (w : FVec F S1024x64 .f32) : FVec F S16384x1024 .f32 :=
  let r : FVec F S16384x64 .f32 := shapeCast S16384x64 x shapeCasts_S16x1024x64_S16384x64
  subf
    (addf
      (broadcastInDim S16384x1024 ![0, 1] bcast_S16384x1_S16384x1024_0_1
        (shapeCast S16384x1 (Host.reduceAdd (mulf r r) (constant S_ .f32 0x00000000#32) reducesTo_S16384x64_S16384_d1 h_S_) shapeCasts_S16384_S16384x1))
      (broadcastInDim S16384x1024 ![0, 1] bcast_S1x1024_S16384x1024_0_1
        (shapeCast S1x1024 (Host.reduceAdd (mulf w w) (constant S_ .f32 0x00000000#32) reducesTo_S1024x64_S1024_d1 h_S_) shapeCasts_S1024_S1x1024)))
    (mulf (broadcastInDim S16384x1024 ![] bcast_S_S16384x1024 (constant S_ .f32 0x40000000#32))
      (Host.dotGeneral dot_S16384x64_S64x1024_S16384x1024_1_0_0_1_n_n none r (transpose S64x1024 [1, 0] w transposes_S1024x64_S64x1024_1_0)))

/-- The second components of a family of pairs. -/
def seconds {ι α β : Type} (g : ι → α × β) : ι → β := fun j => (g j).2

/-- The index of the nearest code, for every row. -/
def argminR (d : FVec F S16384x1024 .f32) : IVec S16384 32 :=
  seconds (Host.argReduce reducer_argmin_f32_i32 d (iotaInDim S16384x1024 32 1) (constant S_ .f32 0x7F800000#32) (constantI S_ 32 0#32)
    reducesTo_S16384x1024_S16384_d1 h_S_)

/-- The rows with a one at their index. -/
def oneHotR (i : IVec S16384 32) : FVec F S16384x1024 .f32 :=
  uitofp .f32 (cmpi .eq
    (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The nearest code of every row, in the input's shape. -/
def quantR (x : FVec F S16x1024x64 .f32) (w : FVec F S1024x64 .f32) : FVec F S16x1024x64 .f32 :=
  shapeCast S16x1024x64 (Host.dotGeneral dot_S16384x1024_S1024x64_S16384x64_1_0_0_1_n_n none (oneHotR (argminR (distR x w))) w)
    shapeCasts_S16384x64_S16x1024x64

/-- The first result. -/
def outR (x : FVec F S16x1024x64 .f32) (w : FVec F S1024x64 .f32) : FVec F S16x1024x64 .f32 := addf x (subf (quantR x w) x)

/-- The second result: a quarter of the mean squared difference. -/
def lossR (x : FVec F S16x1024x64 .f32) (w : FVec F S1024x64 .f32) : FVec F S_ .f32 :=
  mulf (constant S_ .f32 0x3E800000#32)
    (Host.divf (Host.reduceAdd (mulf (subf x (quantR x w)) (subf x (quantR x w))) (constant S_ .f32 0x00000000#32) reducesTo_S16x1024x64_S_d0_1_2 h_S_)
      (constant S_ .f32 0x49800000#32))

/-! ## The run -/

/-- The reference's 41 operations, in order, a called function's standing in its call's place. -/
abbrev ops : List (HloOp τ sig (Elt F)) :=
  [ reshape main_arg0 main_v0 (rfl : (.f32 : EltTy) = .f32) shapeCasts_S16x1024x64_S16384x64,
    binary main_v0 main_v0 main_v1 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    reshape main_v2 main_v3 (rfl : (.f32 : EltTy) = .f32) shapeCasts_S16384_S16384x1,
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    reshape main_v5 main_v6 (rfl : (.f32 : EltTy) = .f32) shapeCasts_S1024_S1x1024,
    unary main_v3 main_v7 (broadcastInDim S16384x1024 ![0, 1] bcast_S16384x1_S16384x1024_0_1 : (⟨S16384x1, .f32⟩ : BufTy).Contents (Elt F) → (⟨S16384x1024, .f32⟩ : BufTy).Contents (Elt F)),
    unary main_v6 main_v8 (broadcastInDim S16384x1024 ![0, 1] bcast_S1x1024_S16384x1024_0_1 : (⟨S1x1024, .f32⟩ : BufTy).Contents (Elt F) → (⟨S16384x1024, .f32⟩ : BufTy).Contents (Elt F)),
    binary main_v7 main_v8 main_v9 (addf : (⟨S16384x1024, .f32⟩ : BufTy).Contents (Elt F) → (⟨S16384x1024, .f32⟩ : BufTy).Contents (Elt F) → (⟨S16384x1024, .f32⟩ : BufTy).Contents (Elt F)),
    unary main_arg1 main_v10 ((transpose S64x1024 [1, 0] · transposes_S1024x64_S64x1024_1_0) : (⟨S1024x64, .f32⟩ : BufTy).Contents (Elt F) → (⟨S64x1024, .f32⟩ : BufTy).Contents (Elt F)),
    binary main_v0 main_v10 main_v11 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v12 (broadcastInDim S16384x1024 ![] bcast_S_S16384x1024 : (⟨S_, .f32⟩ : BufTy).Contents (Elt F) → (⟨S16384x1024, .f32⟩ : BufTy).Contents (Elt F)),
    binary main_v12 main_v11 main_v13 (mulf : (⟨S16384x1024, .f32⟩ : BufTy).Contents (Elt F) → (⟨S16384x1024, .f32⟩ : BufTy).Contents (Elt F) → (⟨S16384x1024, .f32⟩ : BufTy).Contents (Elt F)),
    binary main_v9 main_v13 main_v14 (subf : (⟨S16384x1024, .f32⟩ : BufTy).Contents (Elt F) → (⟨S16384x1024, .f32⟩ : BufTy).Contents (Elt F) → (⟨S16384x1024, .f32⟩ : BufTy).Contents (Elt F)),
    TRef.nullary main_call0.v0 (iotaInDim S16384x1024 32 1),
    TRef.nullary main_call0.cst (constant S_ .f32 0x7F800000#32),
    TRef.nullary main_call0.c (constantI S_ 32 0#32),
    TRef.quaternary (TRef.of (T := ⟨S16384x1024, .f32⟩) main_v14) main_call0.v0 main_call0.cst main_call0.c main_call0.v1_0 (fun x y u v j => (Host.argReduce reducer_argmin_f32_i32 x y u v reducesTo_S16384x1024_S16384_d1 h_S_ j).1),
    TRef.quaternary (TRef.of (T := ⟨S16384x1024, .f32⟩) main_v14) main_call0.v0 main_call0.cst main_call0.c main_call0.v1_1 (fun x y u v j => (Host.argReduce reducer_argmin_f32_i32 x y u v reducesTo_S16384x1024_S16384_d1 h_S_ j).2),
    TRef.unary (TRef.of (T := ⟨S16384, .i32⟩) main_v15) main_call1.v0 (broadcastInDim S16384x1 ![0] bcast_S16384_S16384x1_0),
    TRef.nullary main_call1.v1 (iotaInDim S1x1024 32 1),
    TRef.unary main_call1.v0 main_call1.v2 (broadcastInDim S16384x1024 ![0, 1] bcast_S16384x1_S16384x1024_0_1),
    TRef.unary main_call1.v1 main_call1.v3 (broadcastInDim S16384x1024 ![0, 1] bcast_S1x1024_S16384x1024_0_1),
    TRef.binary main_call1.v2 main_call1.v3 main_call1.v4 (cmpi .eq),
    TRef.unary main_call1.v4 main_call1.v5 (uitofp .f32),
    binary main_v16 main_arg1 main_v17 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    reshape main_v17 main_v18 (rfl : (.f32 : EltTy) = .f32) shapeCasts_S16384x64_S16x1024x64,
    binary main_v18 main_arg0 main_v19 (subf : (⟨S16x1024x64, .f32⟩ : BufTy).Contents (Elt F) → (⟨S16x1024x64, .f32⟩ : BufTy).Contents (Elt F) → (⟨S16x1024x64, .f32⟩ : BufTy).Contents (Elt F)),
    binary main_arg0 main_v19 main_v20 (addf : (⟨S16x1024x64, .f32⟩ : BufTy).Contents (Elt F) → (⟨S16x1024x64, .f32⟩ : BufTy).Contents (Elt F) → (⟨S16x1024x64, .f32⟩ : BufTy).Contents (Elt F)),
    binary main_arg0 main_v18 main_v21 (subf : (⟨S16x1024x64, .f32⟩ : BufTy).Contents (Elt F) → (⟨S16x1024x64, .f32⟩ : BufTy).Contents (Elt F) → (⟨S16x1024x64, .f32⟩ : BufTy).Contents (Elt F)),
    binary main_v21 main_v21 main_v22 (mulf : (⟨S16x1024x64, .f32⟩ : BufTy).Contents (Elt F) → (⟨S16x1024x64, .f32⟩ : BufTy).Contents (Elt F) → (⟨S16x1024x64, .f32⟩ : BufTy).Contents (Elt F)),
    nullary main_cst_2 (constant S_ .f32 0x00000000#32),
    binary main_v22 main_cst_2 main_v23 ((fun x v => Host.reduceAdd x v reducesTo_S16x1024x64_S_d0_1_2 h_S_) : (⟨S16x1024x64, .f32⟩ : BufTy).Contents (Elt F) → (⟨S_, .f32⟩ : BufTy).Contents (Elt F) → (⟨S_, .f32⟩ : BufTy).Contents (Elt F)),
    nullary main_cst_3 (constant S_ .f32 0x49800000#32),
    binary main_v23 main_cst_3 main_v24 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v24 main_v25 (mulf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., reshape_bufs_sub ..,
    binary_bufs_sub .., nullary_bufs_sub .., binary_bufs_sub .., reshape_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., nullary_bufs_sub .., nullary_bufs_sub .., quaternary_bufs_sub ..,
    quaternary_bufs_sub .., unary_bufs_sub .., nullary_bufs_sub .., unary_bufs_sub .., unary_bufs_sub ..,
    binary_bufs_sub .., unary_bufs_sub .., binary_bufs_sub .., reshape_bufs_sub .., binary_bufs_sub .., binary_bufs_sub ..,
    binary_bufs_sub .., binary_bufs_sub .., nullary_bufs_sub .., binary_bufs_sub .., nullary_bufs_sub ..,
    binary_bufs_sub .., nullary_bufs_sub .., binary_bufs_sub ..⟩

variable (m : (ℓ : Loc nD τ sig) → Buf (Elt F) ℓ) (ρ : Dev nD → PrngReg)

set_option maxHeartbeats 2000000 in
/-- Every weakly fair execution of the reference terminates with its results at `outR` and `lossR` of the arguments, and
    the arguments unchanged. -/
theorem run :
    θ_run defs (onTc (τ := τ) (main (F := F))) ⟨m, fun _ => 0, ρ⟩ fun r => ∀ c : Dev nD,
      r.2.mem ((c.tc : Thread nD τ).loc main_v20) = outR (m ((c.tc : Thread nD τ).loc main_arg0)) (m ((c.tc : Thread nD τ).loc main_arg1))
      ∧ r.2.mem ((c.tc : Thread nD τ).loc main_v25) = lossR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      refine ⟨(h c main_v20).trans ?_, (h c main_v25).trans ?_, (h c main_arg0).trans ?_, (h c main_arg1).trans ?_⟩
      all_goals
        simp only [ops, main_call0, main_call1, TRef.quaternary, TRef.binary, TRef.nullary, TRef.unary, TRef.toBuf, TRef.ofBuf, cast_eq]
        after_results_simp <;> rfl)
    (run_seq scopedRefs_eq scopedSems_eq defs main (fun _ => ops) main_eq (fun _ => ops_sub) m ρ)

/-- The frame: both arguments end as they began, and there is no semaphore whose counter could differ from zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, sem_eq_zero_of_no_sems rfl r.2⟩) (run m ρ)

end Cert.ReferenceIdeal.Hand

end
-- ==== Proof.RefArgmin.lean ====
/- The reference's arg-min, over the extended reals: folding pairs (value, index) with its reducer ends at the least pair —
   least value first, then least index —, so at the first place a row of distances attains its least. -/
module

public import proofs.«01_k».proof.Proof.ReferenceRun
public import proofs.«01_k».proof.Proof.FirstMin
public import proofs.«01_k».proof.Proof.Digits
public import Idealize.ShloMosaic.Lib.Pointwise

@[expose] public section

noncomputable section

namespace Cert.ReferenceIdeal.Hand

open Cert.ReferenceIdeal Cert.ReferenceIdeal.Gen Cert.First Cert.Digits
open Idealize.ShloMosaic

/-- A pair stands no later than another: a smaller value, or the same value and an index no larger. -/
def Le (a b : EReal × BitVec 32) : Prop := a.1 < b.1 ∨ (a.1 = b.1 ∧ a.2.toInt ≤ b.2.toInt)

theorem Le.refl (a : EReal × BitVec 32) : Le a a := Or.inr ⟨rfl, le_refl _⟩

theorem Le.trans {a b c : EReal × BitVec 32} (h : Le a b) (h' : Le b c) : Le a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reducer returns one of its two pairs, and it stands no later than either. -/
theorem reducer_spec (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨a1, a2⟩ := a
  obtain ⟨b1, b2⟩ := b
  have key : reducer_argmin_f32_i32 (F := Ideal) (a1, a2) (b1, b2)
      = if a1 < b1 ∨ (a1 = b1 ∧ a2.toInt < b2.toInt) then (a1, a2) else (b1, b2) := by
    unfold reducer_argmin_f32_i32
    simp only [Ideal.cmpf_def, Ideal.cmp, IntOp.cmpi, IntOp.ori, IntOp.andi, Scalar.select, BitVec.slt]
    by_cases h1 : a1 < b1
    · have h2 : a1 ≠ b1 := ne_of_lt h1
      simp [h1, h2]
    · by_cases h2 : a1 = b1
      · subst h2
        by_cases h3 : a2.toInt < b2.toInt <;> simp [h3]
      · simp [h1, h2]
  rw [key]
  split_ifs with h
  · refine ⟨Or.inl rfl, Le.refl _, ?_⟩
    rcases h with h | ⟨h, k⟩
    · exact Or.inl h
    · exact Or.inr ⟨h, k.le⟩
  · refine ⟨Or.inr rfl, ?_, Le.refl _⟩
    rcases lt_trichotomy a1 b1 with h' | h' | h'
    · exact absurd (Or.inl h') h
    · exact Or.inr ⟨h'.symm, not_lt.mp fun k => h (Or.inr ⟨h', k⟩)⟩
    · exact Or.inl h'

/-- So a fold with it ends at a pair of the list, or at the initial one, that stands no later than any of them. -/
theorem foldl_reducer : ∀ (L : List (EReal × BitVec 32)) (a : EReal × BitVec 32),
    (L.foldl (reducer_argmin_f32_i32 (F := Ideal)) a = a ∨ L.foldl (reducer_argmin_f32_i32 (F := Ideal)) a ∈ L)
      ∧ Le (L.foldl (reducer_argmin_f32_i32 (F := Ideal)) a) a ∧ ∀ q ∈ L, Le (L.foldl (reducer_argmin_f32_i32 (F := Ideal)) a) q
  | [], a => ⟨Or.inl rfl, Le.refl a, fun _ h => absurd h List.not_mem_nil⟩
  | b :: L, a => by
      obtain ⟨hm, hle, hall⟩ := foldl_reducer L (reducer_argmin_f32_i32 (F := Ideal) a b)
      obtain ⟨hc, ha, hb⟩ := reducer_spec a b
      rw [List.foldl_cons]
      refine ⟨?_, hle.trans ha, fun q hq => ?_⟩
      · rcases hm with hm | hm
        · rcases hc with hc | hc
          · exact Or.inl (hm.trans hc)
          · exact Or.inr (by rw [hm, hc]; exact List.mem_cons_self)
        · exact Or.inr (List.mem_cons_of_mem _ hm)
      · rcases List.mem_cons.mp hq with rfl | hq
        · exact hle.trans hb
        · exact hall q hq

/-- The pairs a fold runs over are the operands' at the indices that drop to the result's. -/
theorem mem_fiber {s t : Shape} {axes : List (Fin s.rank)} (x : s.Idx → EReal) (y : s.Idx → BitVec 32) (h : s.ReducesTo axes t) (j : t.Idx)
    (q : EReal × BitVec 32) : q ∈ Host.argReduceFiber x y h j ↔ ∃ i, h.drop i = j ∧ (x i, y i) = q := by
  unfold Host.argReduceFiber
  simp only [List.mem_map, List.mem_filter, decide_eq_true_eq, List.mem_finRange, true_and]
  constructor
  · rintro ⟨n, h, e⟩
    exact ⟨_, h, e⟩
  · rintro ⟨i, h, e⟩
    exact ⟨s.rowMajor i, by rw [Equiv.symm_apply_apply]; exact h, by rw [Equiv.symm_apply_apply]; exact e⟩

/-- A code's index as a word. -/
theorem toInt_index (n : ℕ) (h : n < 1024) : (BitVec.ofNat 32 n).toInt = n := by
  rw [BitVec.toInt_ofNat']
  simp only [Int.bmod]
  omega

/-- A second component, of a known pair. -/
theorem seconds_of {ι α β : Type} {g : ι → α × β} {j : ι} {p : α × β} (h : g j = p) : seconds g j = p.2 := congrArg Prod.snd h

/-- The reference's arg-min of row `j` is the first place its distances are least. -/
theorem argminR_apply (d : FVec Ideal S16384x1024 .f32) (j : Fin 16384) :
    argminR d (ix1 j) = BitVec.ofNat 32 (first fun n => d (ix2 j n)).val := by
  unfold argminR
  rw [Ideal.argReduce_eq_reduce2]
  obtain ⟨hm, hle, hall⟩ := foldl_reducer
    (Host.argReduceFiber d (iotaInDim S16384x1024 32 1) reducesTo_S16384x1024_S16384_d1 (ix1 j)) ((⊤ : EReal), 0#32)
  have hi : ((constant (F := Ideal) S_ .f32 0x7F800000#32 (Shape.Idx.first h_S_) : EReal), constantI S_ 32 0#32 (Shape.Idx.first h_S_)) = ((⊤ : EReal), 0#32) := by
    rw [← ofBits_inf]; rfl
  have hf := Host.reduce2_eq_foldl_fiber (reducer_argmin_f32_i32 (F := Ideal)) d (iotaInDim S16384x1024 32 1)
    (constant (F := Ideal) S_ .f32 0x7F800000#32) (constantI S_ 32 0#32) reducesTo_S16384x1024_S16384_d1 h_S_ (ix1 j)
  rw [hi] at hf
  generalize List.foldl (reducer_argmin_f32_i32 (F := Ideal)) ((⊤ : EReal), 0#32) _ = p at hm hle hall hf
  rw [seconds_of hf]
  have hmem : ∀ n : Fin 1024, (d (ix2 j n), BitVec.ofNat 32 n.val) ∈
      Host.argReduceFiber d (iotaInDim S16384x1024 32 1) reducesTo_S16384x1024_S16384_d1 (ix1 j) := fun n =>
    (mem_fiber _ _ _ _ _).mpr ⟨ix2 j n, (Shape.ReducesTo.fiber_r2_a1 reducesTo_S16384x1024_S16384_d1 (ix1 j) _).mpr ⟨n, rfl⟩, rfl⟩
  -- the pair reached is row `j`'s at some code, or `(⊤, 0)`
  obtain ⟨n, hn, hn2⟩ : ∃ n : Fin 1024, p.1 = d (ix2 j n) ∧ p.2 = BitVec.ofNat 32 n.val := by
    rcases hm with rfl | hm
    · refine ⟨0, ?_, rfl⟩
      rcases hall _ (hmem 0) with h | ⟨h, -⟩
      · exact absurd h not_top_lt
      · exact h
    · obtain ⟨i, hi, e⟩ := (mem_fiber _ _ _ _ _).mp hm
      obtain ⟨n, rfl⟩ := (Shape.ReducesTo.fiber_r2_a1 reducesTo_S16384x1024_S16384_d1 (ix1 j) i).mp hi
      exact ⟨n, by rw [← e]; rfl, by rw [← e]; rfl⟩
  rw [hn2]
  refine congrArg (BitVec.ofNat 32) (eq_first (d' := fun k => if h : k < 1024 then d (ix2 j ⟨k, h⟩) else 0)
    (fun k h => by simp only [h, dite_true]) ⟨Nat.zero_le _, n.isLt, fun k _ hk => ?_, fun k _ hk => ?_⟩)
  · simp only [hk, n.isLt, dite_true]
    rcases hall _ (hmem ⟨k, hk⟩) with h | ⟨h, -⟩
    · exact (hn ▸ h).le
    · exact (hn ▸ h).le
  · have hk' := hk.trans n.isLt
    simp only [hk', n.isLt, dite_true]
    rcases hall _ (hmem ⟨k, hk'⟩) with h | ⟨-, h⟩
    · exact hn ▸ h
    · rw [hn2, toInt_index _ n.isLt, toInt_index _ hk'] at h
      omega

end Cert.ReferenceIdeal.Hand

end
-- ==== Proof.RefMath.lean ====
/- What the reference computes, over the extended reals, element by element. -/
module

public import proofs.«01_k».proof.Proof.RefArgmin

@[expose] public section

noncomputable section

namespace Cert.ReferenceIdeal.Hand

open Cert.ReferenceIdeal Cert.ReferenceIdeal.Gen Cert.First Cert.Digits
open Idealize.ShloMosaic

/-- The reference's distance of code `n` to row `r` of batch entry `b`. -/
def distAt (x : FVec Ideal S16x1024x64 .f32) (w : FVec Ideal S1024x64 .f32) (b : Fin 16) (r n : Fin 1024) : EReal :=
  (∑ f : Fin 64, x (ix3 b r f) * x (ix3 b r f)) + (∑ f : Fin 64, w (ix2 n f) * w (ix2 n f))
    - ((2 : ℝ) : EReal) * ∑ f : Fin 64, x (ix3 b r f) * w (ix2 n f)

/-- The first code nearest to that row. -/
def nearestAt (x : FVec Ideal S16x1024x64 .f32) (w : FVec Ideal S1024x64 .f32) (b : Fin 16) (r : Fin 1024) : Fin 1024 := first (distAt x w b r)

/-- The reference's distances, its rows numbered through all batch entries. -/
theorem distR_apply (x : FVec Ideal S16x1024x64 .f32) (w : FVec Ideal S1024x64 .f32) (b : Fin 16) (r n : Fin 1024) (h : b.val * 1024 + r.val < 16384) :
    distR x w (ix2 ⟨b.val * 1024 + r.val, h⟩ n) = distAt x w b r n := by
  unfold distR distAt
  pointwise
  rw [ofBits_two]

/-- The row with a one at its index. -/
theorem oneHotR_apply (i : IVec S16384 32) (j : Fin 16384) (k n : Fin 1024) (hi : i (ix1 j) = BitVec.ofNat 32 k.val) :
    oneHotR (F := Ideal) i (ix2 j n) = if n = k then (1 : EReal) else 0 := by
  unfold oneHotR
  pointwise
  rw [hi]
  have e : (BitVec.ofNat 32 k.val == BitVec.ofNat 32 n.val) = decide (n = k) := by
    rw [Bool.eq_iff_iff, beq_iff_eq, decide_eq_true_eq]
    constructor
    · intro h
      have := congrArg BitVec.toNat h
      simp only [BitVec.toNat_ofNat] at this
      exact Fin.ext (by omega)
    · rintro rfl; rfl
  show (((BitVec.ofBool (BitVec.ofNat 32 k.val == BitVec.ofNat 32 n.val)).toNat : ℝ) : EReal) = _
  rw [e]
  by_cases h : n = k
  · rw [if_pos h, decide_eq_true h, show (BitVec.ofBool true).toNat = 1 by decide]; norm_num
  · rw [if_neg h, decide_eq_false h, show (BitVec.ofBool false).toNat = 0 by decide]; norm_num

/-- The code the reference picks for a row is the first nearest one. -/
theorem quantR_apply (x : FVec Ideal S16x1024x64 .f32) (w : FVec Ideal S1024x64 .f32) (b : Fin 16) (r : Fin 1024) (f : Fin 64) :
    quantR x w (ix3 b r f) = w (ix2 (nearestAt x w b r) f) := by
  have hd := fun h => funext fun n => distR_apply x w b r n h
  have hb : b.val * 1024 + r.val < 16384 := by omega
  have ha : argminR (distR x w) (ix1 ⟨b.val * 1024 + r.val, hb⟩) = BitVec.ofNat 32 (nearestAt x w b r).val := by
    rw [argminR_apply]
    exact congrArg (fun d => BitVec.ofNat 32 (first d).val) (hd hb)
  unfold quantR
  generalize argminR (distR x w) = i at ha
  pointwise
  rw [Finset.sum_eq_single (nearestAt x w b r)]
  · rw [oneHotR_apply i _ _ _ ha, if_pos rfl, one_mul]
  · intro k _ hk
    rw [oneHotR_apply i _ _ _ ha, if_neg hk, zero_mul]
  · exact fun h => absurd (Finset.mem_univ _) h

/-- The first result. -/
theorem outR_apply (x : FVec Ideal S16x1024x64 .f32) (w : FVec Ideal S1024x64 .f32) (b : Fin 16) (r : Fin 1024) (f : Fin 64) :
    outR x w (ix3 b r f) = x (ix3 b r f) + (w (ix2 (nearestAt x w b r) f) - x (ix3 b r f)) := by
  rw [← quantR_apply x w b r f]
  unfold outR
  pointwise

/-- The second result. -/
theorem lossR_apply (x : FVec Ideal S16x1024x64 .f32) (w : FVec Ideal S1024x64 .f32) (i : S_.Idx) :
    lossR x w i = ((4⁻¹ : ℝ) : EReal) * Ideal.div (∑ b : Fin 16, ∑ r : Fin 1024, ∑ f : Fin 64,
      (x (ix3 b r f) - w (ix2 (nearestAt x w b r) f)) * (x (ix3 b r f) - w (ix2 (nearestAt x w b r) f))) ((2 ^ 20 : ℝ) : EReal) := by
  simp only [← quantR_apply x w]
  unfold lossR
  pointwise
  rw [ofBits_quarter, ofBits_count]

end Cert.ReferenceIdeal.Hand

end
-- ==== Proof.Distance.lean ====
/- The two programs' distances are the same number where the inputs are finite: the kernel adds products with `-2` times the
   code, the reference subtracts twice the scalar product. -/
module

public import proofs.«01_k».proof.Proof.SlabMath
public import proofs.«01_k».proof.Proof.RefMath
public import proofs.«01_k».proof.Pre_finite
public import Idealize.ShloMosaic.Lib.ReduceAll
public import Mathlib.Tactic.Ring
public import Mathlib.Algebra.BigOperators.Ring.Finset

@[expose] public section

noncomputable section

namespace Cert.Distance

open Idealize.ShloMosaic Cert.First

/-- A sum of reals, read as an extended real. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The algebra: over reals the two distances agree. -/
theorem real_dist {c : ℕ} (a b : Fin c → ℝ) :
    (∑ f, (b f : EReal) * (b f : EReal)) + (∑ f, (a f : EReal) * (a f : EReal)) + (∑ f, (b f : EReal) * ((-2 : ℝ) : EReal) * (a f : EReal))
      = (∑ f, (a f : EReal) * (a f : EReal)) + (∑ f, (b f : EReal) * (b f : EReal)) - ((2 : ℝ) : EReal) * ∑ f, (a f : EReal) * (b f : EReal) := by
  simp only [← EReal.coe_mul, ← coe_sum, ← EReal.coe_add, ← EReal.coe_sub]
  congr 1
  rw [Finset.mul_sum, sub_eq_add_neg, ← Finset.sum_neg_distrib, add_comm (∑ f, b f * b f)]
  congr 1
  exact Finset.sum_congr rfl fun f _ => by ring

/-- Finite inputs: every element is a real number. -/
def Real {s : Shape} (x : FVec Ideal s .f32) : Prop := ∀ i, ∃ r : ℝ, x i = (r : EReal)

/-- The kernel's distances over a slab and the transposed codes are the reference's. -/
theorem distK_eq (x : FVec Ideal ⟨3, ![16, 1024, 64]⟩ .f32) (w : FVec Ideal ⟨2, ![1024, 64]⟩ .f32) (hx : Real x) (hw : Real w)
    (wt xs : FVec Ideal ⟨2, ![64, 1024]⟩ .f32) (b : Fin 16) (hwt : ∀ f n, wt (ix2 f n) = w (ix2 n f)) (hxs : ∀ f r, xs (ix2 f r) = x (ix3 b r f))
    (r n : Fin 1024) : KernelIdeal.Hand.distK wt xs r n = ReferenceIdeal.Hand.distAt x w b r n := by
  choose X hX using hx
  choose W hW using hw
  unfold KernelIdeal.Hand.distK ReferenceIdeal.Hand.distAt
  simp only [hwt, hxs, hX, hW]
  exact real_dist (fun f => X (ix3 b r f)) (fun f => W (ix2 n f))

/-- So they pick the same code. -/
theorem nearest_eq (x : FVec Ideal ⟨3, ![16, 1024, 64]⟩ .f32) (w : FVec Ideal ⟨2, ![1024, 64]⟩ .f32) (hx : Real x) (hw : Real w)
    (wt xs : FVec Ideal ⟨2, ![64, 1024]⟩ .f32) (b : Fin 16) (hwt : ∀ f n, wt (ix2 f n) = w (ix2 n f)) (hxs : ∀ f r, xs (ix2 f r) = x (ix3 b r f))
    (r : Fin 1024) : KernelIdeal.Hand.nearest wt xs r = ReferenceIdeal.Hand.nearestAt x w b r :=
  congrArg first (funext fun n => distK_eq x w hx hw wt xs b hwt hxs r n)

/-- A number whose magnitude is below `+∞` is real. -/
theorem real_of_abs_lt (a : EReal) (h : max a (-a) < ⊤) : ∃ r : ℝ, a = (r : EReal) := by
  induction a using EReal.rec with
  | bot => simp at h
  | top => simp at h
  | coe r => exact ⟨r, rfl⟩

/-- The test of the precondition, at one element. -/
theorem real_of_bit (a : Ideal .f32) (h : BitVec.ofBool (decide ((FloatOps.absf a : EReal) < Ideal.ofBits .f32 0x7F800000#32)) = 1#1) :
    ∃ r : ℝ, a = (r : EReal) := by
  rw [Digits.ofBits_inf] at h
  by_cases hd : (FloatOps.absf a : EReal) < ⊤
  · exact real_of_abs_lt a hd
  · rw [decide_eq_false hd] at h
    exact absurd h (by decide)

/-- The precondition says that both inputs are finite. -/
theorem real_of_pre [Pre_finite.Facts] (x : FVec Ideal ⟨3, ![16, 1024, 64]⟩ .f32) (w : FVec Ideal ⟨2, ![1024, 64]⟩ .f32)
    (h : Pre_finite.fn (F := Ideal) x w = fun _ => 1#1) : Real x ∧ Real w := by
  have h0 := congrFun h ix0
  unfold Pre_finite.fn at h0
  obtain ⟨ha, hb⟩ := IntOp.andi_eq_one.mp h0
  have : Subsingleton Pre_finite.S_.Idx := ⟨fun a b => funext fun k => k.elim0⟩
  refine ⟨fun i => ?_, fun i => ?_⟩
  · have hi := Host.reduce_andi_all _ _ _ _ _ ha i
    pointwise at hi
    exact real_of_bit _ hi
  · have hi := Host.reduce_andi_all _ _ _ _ _ hb i
    pointwise at hi
    exact real_of_bit _ hi

end Cert.Distance

end
-- ==== Proof.Slabs.lean ====
/- The first result: the array the kernel leaves holds, entry by entry, what the reference's lines give. -/
module

public import proofs.«01_k».proof.Proof.Blocks
public import proofs.«01_k».proof.Proof.Distance

@[expose] public section

set_option maxRecDepth 16384

noncomputable section

namespace Cert.KernelIdeal.Hand

open Cert.KernelIdeal Cert.KernelIdeal.Gen Cert.Digits Cert.Distance
open Idealize.ShloMosaic Idealize.ShloMosaic.TcCoe Idealize.SL.Sem

/-- A table of codes is used as it is. -/
theorem codes_apply (x1 : Vec Ideal S64x1024 .f32) (f : Fin 64) (n : Fin 1024) : codes x1 (ix2 f n) = x1 (ix2 f n) := by
  unfold codes
  pointwise

/-- A slab of a block, at an index. -/
theorem slab_apply (x0 : Vec Ideal S4x64x1024 .f32) (k : Fin 4) (inb) (f : Fin 64) (r : Fin 1024) :
    mat (View.ld x0 (Rect.unit (s := S4x64x1024) ![k.val, 0, 0] S1x64x1024.size inb)) (ix2 f r) = x0 (ix3 k f r) := by
  generalize hX : (View.ld x0 (Rect.unit (s := S4x64x1024) ![k.val, 0, 0] S1x64x1024.size inb) : Vec Ideal S1x64x1024 .f32) = X
  have h : mat X (ix2 f r) = X (ix3 0 f r) := by
    unfold mat
    pointwise
  rw [h, ← hX]
  refine View.ld_unit_apply_of x0 _ _ inb _ _ fun a => ?_
  fin_cases a <;> simp [ix3]

variable (m : (ℓ : Loc nD τ sig) → Buf (Elt Ideal) ℓ) (c : Dev nD)

/-- The input and the codes, as the program finds them. -/
abbrev inX : FVec Ideal ⟨3, ![16, 1024, 64]⟩ .f32 := m ((c : Thread nD τ).loc main_arg0)
@[inherit_doc inX]
abbrev inW : FVec Ideal ⟨2, ![1024, 64]⟩ .f32 := m ((c : Thread nD τ).loc main_arg1)

/-- The batch entry in slab `k` of the block at point `t`. -/
def entryOf (t : Fin cfg0.N) (k : Fin 4) : Fin 16 := ⟨4 * t.val + k.val, by have := point_lt t; omega⟩

/-- The codes at any point. -/
theorem codes_blk (t : Fin cfg0.N) (f : Fin 64) (n : Fin 1024) : codes (iblk m c 1 t) (ix2 f n) = inW m c (ix2 n f) :=
  (codes_apply _ f n).trans (iblk_1 m c t f n)

/-- A slab at any point. -/
theorem slab_blk (t : Fin cfg0.N) (k : Fin 4) (inb) (f : Fin 64) (r : Fin 1024) :
    mat (View.ld (iblk m c 0 t) (Rect.unit (s := S4x64x1024) ![k.val, 0, 0] S1x64x1024.size inb)) (ix2 f r) = inX m c (ix3 (entryOf t k) r f) :=
  (slab_apply _ k inb f r).trans (iblk_0 m c t k f r _)

/-- What the first result's block at point `t` is to hold. -/
def wanted (t : Fin cfg0.N) : Vec Ideal S4x64x1024 .f32 := fun y => ReferenceIdeal.Hand.outR (inX m c) (inW m c) (ix3 (entryOf t (y 0)) (y 2) (y 1))

variable (hX : Real (inX m c)) (hW : Real (inW m c))
include hX hW

/-- Every row of a slab picks the code the reference picks. -/
theorem nearest_blk (t : Fin cfg0.N) (k : Fin 4) (inb) (r : Fin 1024) :
    nearest (codes (iblk m c 1 t)) (mat (View.ld (iblk m c 0 t) (Rect.unit (s := S4x64x1024) ![k.val, 0, 0] S1x64x1024.size inb))) r
      = ReferenceIdeal.Hand.nearestAt (inX m c) (inW m c) (entryOf t k) r :=
  nearest_eq (inX m c) (inW m c) hX hW _ _ (entryOf t k) (codes_blk m c t) (slab_blk m c t k inb) r

/-- What is stored of a slab. -/
theorem piece_blk (t : Fin cfg0.N) (k : Fin 4) (inb) (y : S1x64x1024.Idx) :
    outSlab (codes (iblk m c 1 t)) (iblk m c 2 t) (mat (View.ld (iblk m c 0 t) (Rect.unit (s := S4x64x1024) ![k.val, 0, 0] S1x64x1024.size inb))) y
      = wanted m c t ((Rect.unit (s := S4x64x1024) ![k.val, 0, 0] S1x64x1024.size inb).emb y) := by
  obtain ⟨f, r, rfl⟩ : ∃ (f : Fin 64) (r : Fin 1024), y = ix3 (n0 := 1) (n1 := 64) (n2 := 1024) 0 f r := by
    refine ⟨y 1, y 2, funext fun a => ?_⟩
    fin_cases a
    · exact Subsingleton.elim (α := Fin 1) _ _
    · rfl
    · rfl
  have he : (Rect.unit (s := S4x64x1024) ![k.val, 0, 0] S1x64x1024.size inb).emb (ix3 (n0 := 1) (n1 := 64) (n2 := 1024) 0 f r) = ix3 (n0 := 4) (n1 := 64) (n2 := 1024) k f r := by
    funext a
    refine Fin.ext ((Rect.idx_unit_val _ _ inb _ a).trans ?_)
    fin_cases a <;> simp [ix3]
  rw [he]
  refine (outSlab_apply _ _ _ (iblk_2 m c t) f r).trans ?_
  rw [nearest_blk m c hX hW, slab_blk, codes_blk]
  exact (ReferenceIdeal.Hand.outR_apply _ _ _ _ _).symm

/-- The block the body leaves. -/
theorem outAt_blk (t : Fin cfg0.N) (y : S4x64x1024.Idx) : outAt m c t y = wanted m c t y := by
  refine View.canon_apply_of_pieces (wanted m c t) _ (fun p hp => ?_) y (outPieces_cover _ _ _ y)
  simp only [outPieces, List.mem_cons, List.not_mem_nil, or_false] at hp
  obtain rfl | rfl | rfl | rfl := hp
  · exact piece_blk m c hX hW t 3 _
  · exact piece_blk m c hX hW t 2 _
  · exact piece_blk m c hX hW t 1 _
  · exact piece_blk m c hX hW t 0 _

/-- The array of the first result, after the run. -/
theorem final_3 : (dats m 0 c).arrAt 3 cfg0.N
    = fun i => ReferenceIdeal.Hand.outR (inX m c) (inW m c) (ix3 (i 0) (i 2) (i 1)) := by
  refine (dats m 0 c).arrAt_eq_of_covers 3 _ (by decide +kernel) fun t hf y => ?_
  blk_simp
  rw [after_3]
  refine (outAt_blk m c hX hW t y).trans ?_
  unfold wanted entryOf
  blk_ext [index_3 t]

end Cert.KernelIdeal.Hand

end
-- ==== Proof.Loss.lean ====
/- The second result: the running loss after the last grid point is a quarter of the mean squared difference. -/
module

public import proofs.«01_k».proof.Proof.Slabs

@[expose] public section

set_option maxRecDepth 16384

noncomputable section

namespace Cert.KernelIdeal.Hand

open Cert.KernelIdeal Cert.KernelIdeal.Gen Cert.Digits Cert.Distance
open Idealize.ShloMosaic Idealize.ShloMosaic.TcCoe Idealize.SL.Sem

/-- The running loss at the first point is the block's. -/
theorem runLoss_first (l : Ideal .f32) (old : Vec Ideal S1x1x1 .f32) (j : S1x1x1.Idx) : runLoss (F := Ideal) 0#32 l old j = (0 : EReal) + l := by
  unfold runLoss
  rw [show Scalar.cmpi .eq 0#32 0#32 = 1#1 from by decide, show Scalar.cmpi .eq 0#32 3#32 = 0#1 from by decide]
  show Ideal.ofBits .f32 0x00000000#32 + l = 0 + l
  rw [Ideal.ofBits_zero_f32]

/-- At the second and third point it is the old one and the block's. -/
theorem runLoss_next (i : BitVec 32) (h0 : Scalar.cmpi .eq i 0#32 = 0#1) (h3 : Scalar.cmpi .eq i 3#32 = 0#1) (l : Ideal .f32)
    (old : Vec Ideal S1x1x1 .f32) (j : S1x1x1.Idx) : runLoss (F := Ideal) i l old j = (old j : EReal) + l := by
  unfold runLoss
  rw [h0, h3]
  show shapeCast S1x1x1 old shapeCasts_S1x1x1_S1x1x1 j + l = old j + l
  rw [shapeCast_self]

/-- At the last point it is scaled. -/
theorem runLoss_last (l : Ideal .f32) (old : Vec Ideal S1x1x1 .f32) (j : S1x1x1.Idx) :
    runLoss (F := Ideal) 3#32 l old j = ((old j : EReal) + l) * (((2 ^ 22 : ℝ)⁻¹ : ℝ) : EReal) := by
  unfold runLoss
  rw [show Scalar.cmpi .eq 3#32 0#32 = 0#1 from by decide, show Scalar.cmpi .eq 3#32 3#32 = 1#1 from by decide]
  show (shapeCast S1x1x1 old shapeCasts_S1x1x1_S1x1x1 j + l) * Ideal.ofBits .f32 0x34800000#32 = _
  rw [shapeCast_self, ofBits_scale]

variable (m : (ℓ : Loc nD τ sig) → Buf (Elt Ideal) ℓ) (c : Dev nD)

/-- The squared differences of one batch entry, summed. -/
def entryLoss (b : Fin 16) : EReal := ∑ r : Fin 1024, ∑ f : Fin 64,
  (inX m c (ix3 b r f) - inW m c (ix2 (ReferenceIdeal.Hand.nearestAt (inX m c) (inW m c) b r) f))
    * (inX m c (ix3 b r f) - inW m c (ix2 (ReferenceIdeal.Hand.nearestAt (inX m c) (inW m c) b r) f))

/-- The share of the block at point `t`. -/
def blkLoss (t : Fin cfg0.N) : Ideal .f32 :=
  lossBlk (codes (iblk m c 1 t)) (iblk m c 2 t) (slab0 (iblk m c 0 t)) (slab1 (iblk m c 0 t)) (slab2 (iblk m c 0 t)) (slab3 (iblk m c 0 t))

/-- The sum over the sixteen batch entries, four at a time. -/
theorem sum_entries (g : Fin 16 → EReal) : ∑ b : Fin 16, g b
    = (0 + g 0 + g 1 + g 2 + g 3) + (0 + g 4 + g 5 + g 6 + g 7) + (0 + g 8 + g 9 + g 10 + g 11) + (0 + g 12 + g 13 + g 14 + g 15) := by
  simp only [Fin.sum_univ_succ, Fin.sum_univ_zero, zero_add, add_zero, add_assoc]
  rfl

variable (hX : Real (inX m c)) (hW : Real (inW m c))
include hX hW

/-- A slab's share is its batch entry's. -/
theorem lossSlab_blk (t : Fin cfg0.N) (k : Fin 4) (inb) :
    lossSlab (codes (iblk m c 1 t)) (iblk m c 2 t) (mat (View.ld (iblk m c 0 t) (Rect.unit (s := S4x64x1024) ![k.val, 0, 0] S1x64x1024.size inb)))
      = entryLoss m c (entryOf t k) := by
  refine (lossSlab_eq _ _ _ (iblk_2 m c t)).trans (Finset.sum_comm.trans ?_)
  unfold entryLoss
  refine Finset.sum_congr rfl fun r _ => Finset.sum_congr rfl fun f _ => ?_
  rw [nearest_blk m c hX hW, slab_blk, codes_blk]

/-- A block's share is its four batch entries'. -/
theorem blkLoss_eq (t : Fin cfg0.N) : blkLoss m c t
    = 0 + entryLoss m c (entryOf t 0) + entryLoss m c (entryOf t 1) + entryLoss m c (entryOf t 2) + entryLoss m c (entryOf t 3) := by
  rw [← lossSlab_blk m c hX hW t 0 inb_S4x64x1024_S1x64x1024_0_0_0, ← lossSlab_blk m c hX hW t 1 inb_S4x64x1024_S1x64x1024_1_0_0,
    ← lossSlab_blk m c hX hW t 2 inb_S4x64x1024_S1x64x1024_2_0_0, ← lossSlab_blk m c hX hW t 3 inb_S4x64x1024_S1x64x1024_3_0_0]
  rw [← Ideal.ofBits_zero_f32]
  rfl

omit hX hW in
/-- The running loss after the last point. -/
theorem lossAt_last (j : S1x1x1.Idx) : lossAt m c t0_3.val t0_3.isLt j
    = ((((0 : EReal) + blkLoss m c t0_0) + blkLoss m c t0_1 + blkLoss m c t0_2) + blkLoss m c t0_3) * (((2 ^ 22 : ℝ)⁻¹ : ℝ) : EReal) := by
  have e0 : lossAt m c t0_0.val t0_0.isLt j = (0 : EReal) + blkLoss m c t0_0 := by
    refine (congrFun (lossAt_zero m c t0_0 rfl fun _ => (0 : EReal)) j).trans ?_
    unfold lossOut
    rw [coord_val]
    exact runLoss_first _ _ j
  have e1 : lossAt m c t0_1.val t0_1.isLt j = ((0 : EReal) + blkLoss m c t0_0) + blkLoss m c t0_1 := by
    refine (congrFun (lossAt_succ m c t0_1 (by decide)) j).trans ?_
    unfold lossOut
    rw [coord_val, ← e0]
    exact runLoss_next _ (by decide) (by decide) _ _ j
  have e2 : lossAt m c t0_2.val t0_2.isLt j = ((0 : EReal) + blkLoss m c t0_0) + blkLoss m c t0_1 + blkLoss m c t0_2 := by
    refine (congrFun (lossAt_succ m c t0_2 (by decide)) j).trans ?_
    unfold lossOut
    rw [coord_val, ← e1]
    exact runLoss_next _ (by decide) (by decide) _ _ j
  refine (congrFun (lossAt_succ m c t0_3 (by decide)) j).trans ?_
  unfold lossOut
  rw [coord_val, ← e2]
  exact runLoss_last _ _ j

/-- It is the reference's second result. -/
theorem loss_value (j : S1x1x1.Idx) (i : ReferenceIdeal.S_.Idx) :
    lossAt m c t0_3.val t0_3.isLt j = ReferenceIdeal.Hand.lossR (inX m c) (inW m c) i := by
  have hs : ((((0 : EReal) + blkLoss m c t0_0) + blkLoss m c t0_1 + blkLoss m c t0_2) + blkLoss m c t0_3) = ∑ b : Fin 16, entryLoss m c b := by
    rw [blkLoss_eq m c hX hW, blkLoss_eq m c hX hW, blkLoss_eq m c hX hW, blkLoss_eq m c hX hW, sum_entries, zero_add]
    rfl
  rw [lossAt_last, hs, ReferenceIdeal.Hand.lossR_apply]
  show _ = ((4⁻¹ : ℝ) : EReal) * Ideal.div (∑ b : Fin 16, entryLoss m c b) ((2 ^ 20 : ℝ) : EReal)
  generalize ∑ b : Fin 16, entryLoss m c b = S
  have hd : Ideal.div S ((2 ^ 20 : ℝ) : EReal) = S * (((2 ^ 20 : ℝ)⁻¹ : ℝ) : EReal) := by
    unfold Ideal.div
    rw [if_neg (by exact_mod_cast (by norm_num : (2 ^ 20 : ℝ) ≠ 0)), EReal.coe_inv]
  rw [hd, mul_left_comm, ← EReal.coe_mul]
  congr 2
  norm_num

/-- The array of the second result, after the run. -/
theorem final_4 (i : ReferenceIdeal.S_.Idx) : (dats m 0 c).arrAt 4 cfg0.N = fun _ => ReferenceIdeal.Hand.lossR (inX m c) (inW m c) i := by
  refine (dats m 0 c).arrAt_eq_of_after_last 4 t0_3 (by decide +kernel) _ fun j => ?_
  blk_simp
  rw [after_4]
  exact loss_value m c hX hW j i

end Cert.KernelIdeal.Hand

end
-- ==== Proof.KernelValue.lean ====
/- The whole kernel's run over the extended reals, for finite inputs: both results are the reference's lines of the
   arguments. -/
module

public import proofs.«01_k».proof.Proof.Loss

@[expose] public section

set_option maxRecDepth 16384

noncomputable section

namespace Cert.KernelIdeal.Hand

open Cert.KernelIdeal Cert.KernelIdeal.Gen Cert.Distance
open Idealize.ShloMosaic Idealize.ShloMosaic.TcCoe Idealize.SL.Sem

variable (m : (ℓ : Loc nD τ sig) → Buf (Elt Ideal) ℓ) (ρ : Dev nD → PrngReg)

/-- The program's first result is the transposed array of the region's first. -/
theorem tail_v4 (c : Dev nD) : Pipeline.afterTail₀ cfgs (dats m) 0 (V0 m) [hostOps1] c main_v4
    = transpose S16x1024x64 [0, 2, 1] ((dats m 0 c).arrAt 3 cfg0.N) transposes_S16x64x1024_S16x1024x64_0_2_1 := by
  have h := Pipeline.withArrays_arr spec0 launch0.win.arr_inj c (V0 m c) (fun w => (dats m 0 c).arrAt w cfg0.N) 3
  unfold Pipeline.afterTail₀
  dsimp only [hostOps1, List.flatten_cons, List.flatten_nil, List.append_nil, List.cons_append, List.nil_append]
  after_results_simp
  exact congrArg (fun X => transpose S16x1024x64 [0, 2, 1] X transposes_S16x64x1024_S16x1024x64_0_2_1) h

/-- The program's second result is the one element of the region's second. -/
theorem tail_v5 (c : Dev nD) : Pipeline.afterTail₀ cfgs (dats m) 0 (V0 m) [hostOps1] c main_v5
    = shapeCast S_ ((dats m 0 c).arrAt 4 cfg0.N) shapeCasts_S1x1x1_S_ := by
  have h := Pipeline.withArrays_arr spec0 launch0.win.arr_inj c (V0 m c) (fun w => (dats m 0 c).arrAt w cfg0.N) 4
  unfold Pipeline.afterTail₀
  dsimp only [hostOps1, List.flatten_cons, List.flatten_nil, List.append_nil, List.cons_append, List.nil_append]
  after_results_simp
  exact congrArg (fun X => shapeCast S_ X shapeCasts_S1x1x1_S_) h

variable (hX : ∀ c, Real (inX m c)) (hW : ∀ c, Real (inW m c))
include hX hW

/-- The first result's value. -/
theorem value_v4 (c : Dev nD) : Pipeline.afterTail₀ cfgs (dats m) 0 (V0 m) [hostOps1] c main_v4 = ReferenceIdeal.Hand.outR (inX m c) (inW m c) := by
  rw [tail_v4, final_3 m c (hX c) (hW c)]
  funext i
  obtain ⟨b, r, f, rfl⟩ : ∃ (b : Fin 16) (r : Fin 1024) (f : Fin 64), i = ix3 b r f := ⟨i 0, i 1, i 2, eq_ix3 i⟩
  pointwise

/-- The second result's value. -/
theorem value_v5 (c : Dev nD) : Pipeline.afterTail₀ cfgs (dats m) 0 (V0 m) [hostOps1] c main_v5 = ReferenceIdeal.Hand.lossR (inX m c) (inW m c) := by
  funext i
  rw [tail_v5, final_4 m c (hX c) (hW c) i]
  rfl

/-- Every execution of the kernel terminates with the reference's lines of its arguments in both results, and the
    arguments unchanged. -/
theorem run_value : θ_run defs (onTc (τ := τ) (main (F := Ideal))) ⟨m, fun _ => 0, ρ⟩ (fun r => ∀ c : Dev nD,
      r.2.mem ((c.tc : Thread nD τ).loc main_v4) = ReferenceIdeal.Hand.outR (inX m c) (inW m c)
      ∧ r.2.mem ((c.tc : Thread nD τ).loc main_v5) = ReferenceIdeal.Hand.lossR (inX m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (value_v4 m hX hW c),
     ((h c).2 main_v5 (Pipeline.mem_restRefs_of main_v5 (by decide) (by decide))).trans (value_v5 m hX hW c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Hand

end
-- ==== Proof.BitsFrame.lean ====
/- The kernel's frame at the floats' bit patterns: the ideal kernel is the same text, so its frame, which holds at any
   floats, is the kernel's. -/
module

public import proofs.«01_k».proof.Defs
public import proofs.«01_k».proof.Proof.Gen.Kernel
public import proofs.«01_k».proof.Proof.KernelRun

@[expose] public section

set_option maxRecDepth 16384

noncomputable section

namespace Cert.Kernel.Hand

open Cert.Kernel Idealize.ShloMosaic Idealize.ShloMosaic.TcCoe Idealize.SL.Sem

attribute [local instance] Cert.Kernel.Gen.facts Cert.KernelIdeal.Gen.facts

variable (m : (ℓ : Loc nD τ sig) → Buf (Elt Bits) ℓ) (ρ : Dev nD → PrngReg)

/-- The frame: both arguments end as they began, and every semaphore counter ends at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Eq.mp ?_ (Cert.KernelIdeal.Hand.frame (F := Bits) m ρ)
  sl_kernel_rfl

end Cert.Kernel.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.ReferenceRun
public import proofs.«01_k».proof.Proof.BitsFrame

@[expose] public section

noncomputable section

namespace Cert.Proof

open Idealize.ShloMosaic Idealize.ShloMosaic.TcCoe Idealize.SL.Sem

/-- The side conditions of the precondition's text. -/
theorem finite_facts : Cert.Pre_finite.Facts where
  bcast_S_S16x1024x64 := by decide
  reducesTo_S16x1024x64_S_d0_1_2 := by decide
  h_S_ := by decide
  bcast_S_S1024x64 := by decide
  reducesTo_S1024x64_S_d0_1 := by decide

/-- For finite inputs the kernel and the reference compute the same two results. -/
theorem same_results : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  haveI := finite_facts
  have hr : ∀ c, Cert.Distance.Real (Cert.KernelIdeal.Hand.inX m c) ∧ Cert.Distance.Real (Cert.KernelIdeal.Hand.inW m c) :=
    fun c => Cert.Distance.real_of_pre _ _ (hpre c)
  refine ⟨fun c => Cert.ReferenceIdeal.Hand.outR (Cert.KernelIdeal.Hand.inX m c) (Cert.KernelIdeal.Hand.inW m c),
    fun c => Cert.ReferenceIdeal.Hand.lossR (Cert.KernelIdeal.Hand.inX m c) (Cert.KernelIdeal.Hand.inW m c),
    Cert.KernelIdeal.Hand.run_value m g (fun c => (hr c).1) (fun c => (hr c).2), ?_⟩
  refine (θ_run _ _ _).mono (fun _ h c => ?_) (Cert.ReferenceIdeal.Hand.run m' g')
  obtain ⟨h0, h1, h2, h3⟩ := h c
  obtain ⟨a0, a1⟩ := hagree c
  exact ⟨h0.trans (congrArg₂ Cert.ReferenceIdeal.Hand.outR a0 a1), h1.trans (congrArg₂ Cert.ReferenceIdeal.Hand.lossR a0 a1), h2, h3⟩

/-- Everything claimed. -/
theorem claim : Cert.Claim :=
  ⟨Cert.Kernel.Gen.facts, Cert.KernelIdeal.Gen.facts, Cert.ReferenceIdeal.Gen.facts, finite_facts,
    fun m g _ => Cert.Kernel.Hand.frame m g,
    fun m g _ => Cert.KernelIdeal.Hand.frame m g,
    fun m g _ => Cert.KernelIdeal.Hand.frame m g,
    fun m g _ => Cert.ReferenceIdeal.Hand.frame m g,
    fun m g _ => Cert.ReferenceIdeal.Hand.frame m g,
    trivial, same_results⟩

end Cert.Proof

end
